-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S4x2048x8192 : Shape := ⟨3, ![4, 2048, 8192]⟩
abbrev S_ : Shape := ⟨0, ![]⟩
abbrev S3 : Shape := ⟨1, ![3]⟩
abbrev S1x2048x8192 : Shape := ⟨3, ![1, 2048, 8192]⟩
abbrev S1 : Shape := ⟨1, ![1]⟩
abbrev S1x256x8192 : Shape := ⟨3, ![1, 256, 8192]⟩
abbrev S256x1024 : Shape := ⟨2, ![256, 1024]⟩
abbrev S256x8192 : Shape := ⟨2, ![256, 8192]⟩

abbrev nBuf : Space → Nat
  | .hbm => 4
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S4x2048x8192, .bf16⟩
  | .hbm, ⟨3, _⟩ => ⟨S8192x1024, .f32⟩
  | .local _ .vmem, ⟨0, _⟩ => ⟨S1x256x8192, .bf16⟩
  | .local _ .vmem, ⟨1, _⟩ => ⟨S1x256x8192, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let c0_i32_20 : BitVec 32 := 0#32
  ![v2.toNat, 0, 0]
def k0_off2 (d0 : Dev nD) (c0_i32_23 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.subi v2 c0_i32_23
  let c4_i32_24 : BitVec 32 := 4#32
  let c0_i32_25 : BitVec 32 := 0#32
  let v35 : BitVec 1 := Scalar.cmpi .eq c4_i32_24 c0_i32_25
  let c1_i32_26 : BitVec 32 := 1#32
  let v36 : BitVec 32 := Scalar.select v35 c1_i32_26 c4_i32_24
  let v37 : BitVec 32 := Scalar.remsi v34 v36
  let c0_i32_28 : BitVec 32 := 0#32
  let v39 : BitVec 1 := Scalar.cmpi .slt v37 c0_i32_28
  let c0_i32_29 : BitVec 32 := 0#32
  let v40 : BitVec 1 := Scalar.cmpi .slt v36 c0_i32_29
  let v41 : BitVec 1 := Scalar.xori v39 v40
  let c0_i32_27 : BitVec 32 := 0#32
  let v38 : BitVec 1 := Scalar.cmpi .ne v37 c0_i32_27
  let v42 : BitVec 1 := Scalar.andi v41 v38
  let v43 : BitVec 32 := Scalar.addi v37 v36
  let v44 : BitVec 32 := Scalar.select v42 v43 v37
  let c0_i32_34 : BitVec 32 := 0#32
  let c0_i32_35 : BitVec 32 := 0#32
  ![v44.toNat, 0, 0]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v45 : BitVec 32 := Scalar.muli v24 c1_i32_32
  let v46 : BitVec 32 := Scalar.addi c0_i32_33 v45
  v46.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v80 : BitVec 32 := Scalar.muli v24 c1_i32_62
  let v81 : BitVec 32 := Scalar.addi c0_i32_63 v80
  v81.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_92 : BitVec 32 := 1#32
  let v115 : BitVec 32 := Scalar.muli v24 c1_i32_92
  let v116 : BitVec 32 := Scalar.addi c0_i32_93 v115
  v116.toNat
abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S8192x8192 : Shape := ⟨2, ![8192, 8192]⟩
abbrev S8192x4096 : Shape := ⟨2, ![8192, 4096]⟩

abbrev nBuf : Space → Nat
  | .hbm => 6
  | .vmem => 2
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | .hbm, ⟨5, _⟩ => ⟨S8192x4096, .f32⟩
  | .local _ .vmem, ⟨0, _⟩ => ⟨S8192x4096, .f32⟩
  | .local _ .vmem, ⟨1, _⟩ => ⟨S8192x4096, .f32⟩
  | _, _ => ⟨S8192x8192, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "lower" => some ⊥
  | "upper" => some ⊤
  | _ => none

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelIdeal.Slots.lean ====
/-
  The gathered array of the ring all-gather: the four devices' neighbours, the slot of the gathered array each transfer
  moves, and the one value every device's gathered array ends at.
-/
module

public import proofs.«01_k».proof.Proof.Gen.KernelIdeal.Launch
public import proofs.«01_k».proof.Proof.Gen.KernelIdeal.Skeleton
public import Idealize.ShloMosaic.Lib.ValueLayout
public import Idealize.ShloMosaic.Lib.Ring

@[expose] public section

noncomputable section

namespace Cert.KernelIdeal.Gather

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.Sem
open Cert.KernelIdeal.Gen

variable {F : FTy → Type} [FloatOps F]

/-! ## The ring of devices -/

/-- The device to the right, which device c's transfers go to. -/
def nxt (c : Dev nD) : Dev nD := ⟨(c.val + 1) % 4, Nat.mod_lt _ (by decide)⟩
/-- The device to the left, whose transfers come to device c. -/
def prv (c : Dev nD) : Dev nD := ⟨(c.val + 3) % 4, Nat.mod_lt _ (by decide)⟩

theorem nxt_prv : ∀ c : Dev nD, nxt (prv c) = c := by decide
theorem prv_nxt : ∀ c : Dev nD, prv (nxt c) = c := by decide
theorem prv_prv_prv : ∀ c : Dev nD, prv (prv (prv c)) = nxt c := by decide

/-- One step round the ring. -/
def turn : Dev nD ≃ Dev nD := ⟨nxt, prv, prv_nxt, nxt_prv⟩

/-- Which device's block device c sends at step h: its own, then the one to the left, then the one beyond it. -/
def owner (c : Dev nD) : Fin 3 → Dev nD := ![c, prv c, prv (prv c)]

theorem owner_zero (c : Dev nD) : owner c 0 = c := rfl
theorem owner_one (c : Dev nD) : owner c 1 = prv c := rfl
theorem owner_two (c : Dev nD) : owner c 2 = prv (prv c) := rfl
theorem owner_prv_zero (c : Dev nD) : owner (prv c) 0 = owner c 1 := rfl
theorem owner_prv_one (c : Dev nD) : owner (prv c) 1 = owner c 2 := rfl

/-- The printed device numbers are the neighbours. -/
theorem dev1_eq : ∀ c : Dev nD, (⟨k0_dev1 c, Facts₀.k0_dev1_lt c⟩ : Dev nD) = prv c := by decide +kernel
theorem dev2_eq : ∀ c : Dev nD, (⟨k0_dev2 c, Facts₀.k0_dev2_lt c⟩ : Dev nD) = nxt c := by decide +kernel
theorem dev3_eq : ∀ c : Dev nD, (⟨k0_dev3 c, Facts₀.k0_dev3_lt c⟩ : Dev nD) = nxt c := by decide +kernel
theorem dev4_eq : ∀ c : Dev nD, (⟨k0_dev4 c, Facts₀.k0_dev4_lt c⟩ : Dev nD) = nxt c := by decide +kernel
theorem dev5_eq : ∀ c : Dev nD, (⟨k0_dev5 c, Facts₀.k0_dev5_lt c⟩ : Dev nD) = nxt c := by decide +kernel

/-! ## The slots -/

/-- The device's block of the left operand, and its gathered array. -/
abbrev xM : Memref sig .tc .hbm S2048x8192 .bf16 := Memref.whole main_arg0
abbrev gM : Memref sig .tc .hbm S4x2048x8192 .bf16 := Memref.whole main_v1

/-- The [2048, 8192] block of the gathered array at an offset. -/
abbrev blockAt (off : Fin 3 → ℕ) (h : ∀ a, off a + S1x2048x8192.size a ≤ S4x2048x8192.size a) : Memref sig .tc .hbm S2048x8192 .bf16 :=
  (gM.slice (Rect.unit (s := S4x2048x8192) off S1x2048x8192.size h) (fun _ => rfl)).squeeze S2048x8192 squeezes_S1x2048x8192_S2048x8192

theorem slot_inb (s : Dev nD) : ∀ a, (![s.val, 0, 0] : Fin 3 → ℕ) a + S1x2048x8192.size a ≤ S4x2048x8192.size a := by
  revert s; decide +kernel

/-- Slot s of the gathered array: the place of device s's block. -/
abbrev slot (s : Dev nD) : Memref sig .tc .hbm S2048x8192 .bf16 := blockAt ![s.val, 0, 0] (slot_inb s)

/-- A block at a slot's offset is that slot. -/
theorem blockAt_eq (s : Dev nD) (off : Fin 3 → ℕ) (h : ∀ a, off a + S1x2048x8192.size a ≤ S4x2048x8192.size a)
    (e : off = ![s.val, 0, 0]) : blockAt off h = slot s := by subst e; rfl

theorem off2_zero : ∀ c : Dev nD, k0_off2 c 0#32 = ![(owner c 0).val, 0, 0] := by decide +kernel
theorem off2_one : ∀ c : Dev nD, k0_off2 c 1#32 = ![(owner c 1).val, 0, 0] := by decide +kernel
theorem off2_two : ∀ c : Dev nD, k0_off2 c 2#32 = ![(owner c 2).val, 0, 0] := by decide +kernel

/-- The first coordinate of an element of the gathered array: whose block it belongs to. -/
abbrev whose (i : S4x2048x8192.Idx) : Dev nD := i 0
/-- The element's place within that block. -/
abbrev within (i : S4x2048x8192.Idx) : S2048x8192.Idx := ix2 (n0 := 2048) (n1 := 8192) (i 1) (i 2)

/-- The element of the gathered array under an index of slot s. -/
theorem slot_emb (s : Dev nD) (j : S2048x8192.Idx) :
    (slot s).view.emb j = (ix3 (n0 := 4) (n1 := 2048) (n2 := 8192) s (j 0) (j 1) : S4x2048x8192.Idx) := by
  have e : Shape.reshapeEquiv (s' := S2048x8192) (s := S1x2048x8192) squeezes_S1x2048x8192_S2048x8192.numel_eq j
      = (ix3 (n0 := 1) (n1 := 2048) (n2 := 8192) 0 (j 0) (j 1) : S1x2048x8192.Idx) :=
    (congrArg (Shape.reshapeEquiv _) (eq_ix2 (n0 := 2048) (n1 := 8192) j)).trans
      (reshapeEquiv_ix2_1ab (a := 2048) (b := 8192) squeezes_S1x2048x8192_S2048x8192.numel_eq (j 0) (j 1))
  show (Rect.unit (s := S4x2048x8192) ![s.val, 0, 0] S1x2048x8192.size (slot_inb s)).emb
    (Shape.reshapeEquiv (s' := S2048x8192) (s := S1x2048x8192) squeezes_S1x2048x8192_S2048x8192.numel_eq j) = _
  rw [e]
  funext a
  match a with
  | ⟨0, _⟩ => exact Fin.ext (by show s.val + 1 * 0 = s.val; omega)
  | ⟨1, _⟩ => exact Fin.ext (by show 0 + 1 * (j 0).val = (j 0).val; omega)
  | ⟨2, _⟩ => exact Fin.ext (by show 0 + 1 * (j 1).val = (j 1).val; omega)

theorem slot_emb_within (i : S4x2048x8192.Idx) : (slot (whose i)).view.emb (within i) = i := by
  rw [slot_emb]; exact (eq_ix3 i).symm

/-- The elements of slot s. -/
abbrev slotSet (s : Dev nD) : Finset S4x2048x8192.Idx := (slot s).view.set

/-- An element of the gathered array is in slot s when its first coordinate is s. -/
theorem mem_slot (s : Dev nD) (i : S4x2048x8192.Idx) : i ∈ slotSet s ↔ whose i = s := by
  constructor
  · intro h
    obtain ⟨j, -, e⟩ := Finset.mem_map.mp h
    rw [slot_emb] at e
    rw [← e]
  · rintro rfl
    have h : (slot (whose i)).view.emb (within i) ∈ slotSet (whose i) := View.emb_mem_set _ _
    rwa [slot_emb_within] at h

theorem slots_disjoint (s s' : Dev nD) (h : s ≠ s') : Disjoint (slotSet s) (slotSet s') :=
  Finset.disjoint_left.mpr fun i hi hi' => h (((mem_slot s i).mp hi).symm.trans ((mem_slot s' i).mp hi'))

theorem slots_cover : (Finset.univ : Finset (Dev nD)).biUnion slotSet = Finset.univ := by
  ext i
  simp only [Finset.mem_biUnion, Finset.mem_univ, true_and, iff_true]
  exact ⟨whose i, (mem_slot _ i).mpr rfl⟩

/-! ## What the slots hold -/

variable (m : (ℓ : Loc nD τ sig) → Buf (Elt F) ℓ)

/-- The gathered array: element (s, r, k) is element (r, k) of device s's block. The same on every device. -/
def gath : (main_v1 : Ref sig .tc).ty.Contents (Elt F) :=
  fun i => (m ((whose i : Thread nD τ).loc main_arg0) : S2048x8192.Idx → Elt F .bf16) (within i)

/-- A slot of one device's gathered array written into the same slot of another's: the elements written are the gathered array's. -/
theorem forwarded (s : Dev nD) (fd : (main_v1 : Ref sig .tc).ty.Contents (Elt F)) :
    ∀ i ∈ slotSet s, (slot s).view.write (Elt F) fd ((slot s).view.read (Elt F) (gath m)) Finset.univ i = gath m i := by
  intro i hi
  obtain ⟨j, -, rfl⟩ := Finset.mem_map.mp hi
  rw [View.write_emb_of_mem _ _ (Finset.mem_univ _)]; rfl

/-- Device s's block written into slot s: the elements written are the gathered array's. -/
theorem placed (s : Dev nD) (fd : (main_v1 : Ref sig .tc).ty.Contents (Elt F)) :
    ∀ i ∈ slotSet s, (slot s).view.write (Elt F) fd
      (xM.view.read (Elt F) (m ((s : Thread nD τ).loc main_arg0))) Finset.univ i = gath m i := by
  intro i hi
  obtain ⟨j, -, rfl⟩ := Finset.mem_map.mp hi
  rw [View.write_emb_of_mem _ _ (Finset.mem_univ _), slot_emb]
  exact congrArg (m ((s : Thread nD τ).loc main_arg0) : S2048x8192.Idx → Elt F .bf16) (eq_ix2 (n0 := 2048) (n1 := 8192) j)

end Cert.KernelIdeal.Gather
-- ==== Proof.KernelIdeal.Protocol.lean ====
/-
  The protocol of the ring all-gather. Each device has eight semaphores that count in it: the barrier, which both its
  neighbours raise by one; the semaphore of its local copy; three on which its own transfers report that their source
  has been read; three on which its left neighbour's transfers report that they have landed. Each counts one round, and
  this file states who raises each by how much and what a raise hands over.
-/
module

public import proofs.«01_k».proof.Proof.KernelIdeal.Slots
public import Idealize.ShloMosaic.Lib.Pipeline.Regions
public import Idealize.ShloMosaic.Lib.Pipeline.RegionTalk
public import Idealize.ShloMosaic.Lib.Rounds
public import Idealize.ShloMosaic.Lib.Tactic

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The resources beside the machine's: the pipeline library's rounds, and this protocol's, whose duties are two to a cell. -/
abbrev UU : Type := UR sig nD τ × Rounds.URounds (GSem nD τ sig) Bool

local notation "𝕄" => MT nD τ sig Unit (Elt F) ℕ UU ℕ

abbrev EP : Emb (UR sig nD τ) (MT nD τ sig Unit (Elt F) ℕ UU ℕ) := embL
abbrev ER : Emb (Rounds.URounds (GSem nD τ sig) Bool) (MT nD τ sig Unit (Elt F) ℕ UU ℕ) := embR

/-! ## The cells -/

/-- The gather's own semaphores, in the order of the pool: the local copy's, three for sources read, three for landings. -/
abbrev own : Fin 7 → SemLoc sig := fun k => .dma ⟨k.val, by have := k.isLt; show k.val < 12; omega⟩
abbrev barS : SemLoc sig := .reg barrier0

abbrev barCell (c : Dev nD) : GSem nD τ sig := ((c : Thread nD τ), barS)
abbrev cell (c : Dev nD) (k : Fin 7) : GSem nD τ sig := ((c : Thread nD τ), own k)

/-- Where the semaphores of step h stand among the seven. -/
abbrev sentK (h : Fin 3) : Fin 7 := ⟨1 + h.val, by omega⟩
abbrev landK (h : Fin 3) : Fin 7 := ⟨4 + h.val, by omega⟩

theorem own_inj : Function.Injective own := by decide
theorem own_ne_bar : ∀ k, own k ≠ barS := by decide

/-- Which of the seven a semaphore is, if it is one. -/
def which : SemLoc sig → Option (Fin 7)
  | .dma i => if h : i.val < 7 then some ⟨i.val, h⟩ else none
  | _ => none

theorem which_own : ∀ k, which (own k) = some k := by decide
theorem which_bar : which barS = none := rfl

/-- The credit of one slot's transfer. -/
abbrev N : ℕ := (slot 0).view.dmaCredit
theorem N_pos : 0 < N := View.dmaCredit_pos _ (by decide)

/-! ## What is held of the buffers -/

variable (m : (ℓ : Loc nD τ sig) → Buf (Elt F) ℓ)

/-- Slot s of device c's gathered array, at contents f. -/
abbrev slotPts (c s : Dev nD) (f : (main_v1 : Ref sig .tc).ty.Contents (Elt F)) : sProp 𝕄 :=
  (slot s).view.loc (c : Thread nD τ) ↦[(slot s).view.set]{fullShare} f
/-- Slot s of device c's gathered array, holding device s's block. -/
abbrev slotHas (c s : Dev nD) : sProp 𝕄 := slotPts c s (gath m)
/-- Device c's own block of the left operand. -/
abbrev xPts (c : Dev nD) : sProp 𝕄 :=
  (xM : Memref sig .tc .hbm S2048x8192 .bf16).view.loc (c : Thread nD τ) ↦[(xM : Memref sig .tc .hbm S2048x8192 .bf16).view.set]{fullShare}
    m ((c : Thread nD τ).loc main_arg0)

/-! ## The schedule -/

/-- What device c's right neighbour hands over with its raise of c's barrier: the three slots of its gathered array that c
    will write, and that its three landing semaphores are in their first round. -/
def lent (c : Dev nD) : sProp 𝕄 :=
  iprop(((∃ f, slotPts (nxt c) (owner c 0) f) ∗ (∃ f, slotPts (nxt c) (owner c 1) f) ∗ (∃ f, slotPts (nxt c) (owner c 2) f))
    ∗ reached ER (cell (nxt c) (landK 0)) 0 ∗ reached ER (cell (nxt c) (landK 1)) 0 ∗ reached ER (cell (nxt c) (landK 2)) 0)

/-- What the raise of each of device c's seven semaphores hands back: the local copy, c's own slot filled and its block; a
    source read, the slot sent; a landing, the slot received. -/
def paid (c : Dev nD) : Fin 7 → sProp 𝕄 :=
  ![iprop(slotHas m c c ∗ xPts m c), slotHas m c (owner c 0), slotHas m c (owner c 1), slotHas m c (owner c 2),
    slotHas m c (owner (prv c) 0), slotHas m c (owner (prv c) 1), slotHas m c (owner (prv c) 2)]

/-- One round everywhere. On the barrier two duties of one unit, the right neighbour's (true) and the left one's (false); on
    each of the seven one duty of a slot's credit. -/
def rd : Rounds.Schedule (GSem nD τ sig) Bool 𝕄 where
  duties g r := if r = 0 ∧ g.1.2 = .tc then (if g.2 = barS then {false, true} else if (which g.2).isSome then {false} else ∅) else ∅
  unitless _ := False
  amount g _ _ := if g.2 = barS then 1 else N
  payload g _ d :=
    if g.2 = barS then (if d then lent g.1.1 else iprop(emp))
    else match which g.2 with
      | some k => paid m g.1.1 k
      | none => iprop(emp)
  amount_pos g _ _ _ := by
    split
    · exact Nat.one_pos
    · exact N_pos

instance paid_storable (c : Dev nD) (k : Fin 7) : BI.Storable (upEmb : UEmb _ 𝕄) (paid m c k) := by
  unfold paid
  fin_cases k <;> (dsimp; infer_instance)

instance lent_storable (c : Dev nD) : BI.Storable (upEmb : UEmb _ 𝕄) (lent (F := F) c) := by
  unfold lent; infer_instance

instance rd_storable (g : GSem nD τ sig) (r : ℕ) (d : Bool) : BI.Storable (upEmb : UEmb _ 𝕄) ((rd (F := F) m).payload g r d) := by
  dsimp only [rd]
  split
  · split <;> infer_instance
  · split <;> infer_instance

section Tables

variable (c : Dev nD) (k : Fin 7)

theorem duties_bar : (rd m).duties (barCell c) 0 = {false, true} := by
  dsimp only [rd]; rw [if_pos ⟨rfl, rfl⟩, if_pos rfl]
theorem duties_own : (rd m).duties (cell c k) 0 = {false} := by
  dsimp only [rd]; rw [if_pos ⟨rfl, rfl⟩, if_neg (own_ne_bar k), which_own]; rfl
theorem duties_later (g : GSem nD τ sig) : ∀ r, 1 ≤ r → (rd m).duties g r = ∅ :=
  fun r hr => by dsimp only [rd]; rw [if_neg fun h => by omega]

theorem amount_bar (d : Bool) : (rd m).amount (barCell c) 0 d = 1 := by dsimp only [rd]; exact if_pos rfl
theorem amount_own (d : Bool) : (rd m).amount (cell c k) 0 d = N := by dsimp only [rd]; exact if_neg (own_ne_bar k)

theorem expect_bar : (rd m).expect (barCell c) 0 = 2 := by
  unfold Schedule.expect Schedule.amountOf
  rw [duties_bar, Finset.sum_pair (by decide), amount_bar, amount_bar]
theorem expect_own : (rd m).expect (cell c k) 0 = N := by
  unfold Schedule.expect Schedule.amountOf; rw [duties_own, Finset.sum_singleton, amount_own]

theorem payload_bar_right : (rd m).payload (barCell c) 0 true = lent c := by
  dsimp only [rd]; rw [if_pos rfl]; exact if_pos rfl
theorem payload_bar_left : (rd m).payload (barCell c) 0 false = iprop(emp) := by
  dsimp only [rd]; rw [if_pos rfl]; exact if_neg (by decide)
theorem payload_own (d : Bool) : (rd m).payload (cell c k) 0 d = paid m c k := by
  dsimp only [rd]; rw [if_neg (own_ne_bar k), which_own]

/-- What a wait for the whole round of a barrier, and of one of the seven, brings. -/
theorem round_bar : bigSep ((rd m).duties (barCell c) 0 \ ∅) (fun d => (rd m).payload (barCell c) 0 d) ⊢ lent c := by
  rw [Finset.sdiff_empty, duties_bar, bigSep_insert (by decide), bigSep_singleton, payload_bar_left, payload_bar_right]
  exact BI.emp_sep_elim
theorem round_own : bigSep ((rd m).duties (cell c k) 0 \ ∅) (fun d => (rd m).payload (cell c k) 0 d) = paid m c k := by
  rw [Finset.sdiff_empty, duties_own, bigSep_singleton, payload_own]

end Tables

/-! ## What a device owes -/

/-- The landings device c owes its right neighbour with n transfers to go. -/
def due (c : Dev nD) : ℕ → CellTallies nD τ sig Unit
  | 0 => 0
  | n + 1 => due c n + tallyAt (cell (nxt c) (landK (Fin.ofNat 3 (2 - n)))) () N

/-- What device c owes at the start: three landings and a unit on each neighbour's barrier. -/
def O₀ (c : Dev nD) : CellTallies nD τ sig Unit := due c 3 + tallyAt (barCell (nxt c)) () 1 + tallyAt (barCell (prv c)) () 1

def L (g : GSem nD τ sig) : Finset Unit := if g.1.2 = .tc then {()} else ∅

/-- The order in which waits may stand: everything else, then the barriers, then the landings step by step. -/
def lv (g : GSem nD τ sig) (_ : Unit) : ℕ :=
  if g.2 = barS then 1 else match which g.2 with
    | some k => if 4 ≤ k.val then k.val - 2 else 0
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_own (c : Dev nD) (k : Fin 7) : lv (cell c k) () = if 4 ≤ k.val then k.val - 2 else 0 := by
  dsimp only [lv]; rw [if_neg (own_ne_bar k), which_own]

/-- What is owed with n to go is owed on the landings of the last n steps. -/
theorem due_pos {c : Dev nD} {n : ℕ} {g : GSem nD τ sig} {u : Unit} (h : 0 < due c n g u) (hn : n ≤ 3) :
    ∃ k : Fin 7, 7 - n ≤ k.val ∧ g = cell (nxt c) k := by
  induction n with
  | zero => exact absurd h (Nat.lt_irrefl 0)
  | succ n ih =>
    unfold due at h
    rw [Pi.add_apply, Finsupp.add_apply] at h
    rcases Nat.add_pos_iff_pos_or_pos.mp h with h | h
    · obtain ⟨k, hk, e⟩ := ih h (by omega)
      exact ⟨k, by omega, e⟩
    · rw [tallyAt_apply] at h
      split at h
      · next hg =>
        refine ⟨_, ?_, hg.1⟩
        show 7 - (n + 1) ≤ 4 + (2 - n) % 3
        have : (2 - n) % 3 = 2 - n := Nat.mod_eq_of_lt (by omega)
        omega
      · exact absurd h (Nat.lt_irrefl 0)

/-- Device c may wait on a cell of its own that stands below the landings it still owes. -/
theorem mayWait (c : Dev nD) (sm : SemLoc sig) (n : ℕ) (hn : n ≤ 3) (hl : lv ((c : Thread nD τ), sm) () + n < 5) :
    (levAts L lv : sProp 𝕄) ⊢ MayWait (c : Thread nD τ) sm () (due c n) :=
  MayOwe.of_cut (L := L) (lev := lv) (4 - n) (fun p hp => by rw [Finset.mem_singleton.mp hp, L_tc]; exact Finset.mem_singleton_self _)
    (fun g u hg => by
      obtain ⟨k, -, rfl⟩ := due_pos hg hn
      rw [L_tc]; exact Finset.mem_singleton_self _)
    (fun p hp => by rw [Finset.mem_singleton.mp hp]; show lv ((c : Thread nD τ), sm) () ≤ 4 - n; omega)
    (fun g u hg => by
      obtain ⟨k, hk, rfl⟩ := due_pos hg hn
      have h7 : k.val < 7 := k.isLt
      show 4 - n < lv (cell (nxt c) k) ()
      rw [lv_own, if_pos (by omega)]; omega)

/-! ## What a device carries -/

/-- The invariants device c opens: those of its own eight semaphores, of its neighbours' barriers, and of its right
    neighbour's landings. -/
def invs (K : GSem nD τ sig → ℕ) (c : Dev nD) : sProp 𝕄 :=
  iprop(cellInv ER (rd m) (K (barCell c)) (barCell c)
    ∗ (bigSep Finset.univ fun k : Fin 7 => cellInv ER (rd m) (K (cell c k)) (cell c k))
    ∗ cellInv ER (rd m) (K (barCell (prv c))) (barCell (prv c)) ∗ cellInv ER (rd m) (K (barCell (nxt c))) (barCell (nxt c))
    ∗ bigSep Finset.univ fun h : Fin 3 => cellInv ER (rd m) (K (cell (nxt c) (landK h))) (cell (nxt c) (landK h)))

instance invs_persistent (K : GSem nD τ sig → ℕ) (c : Dev nD) : BI.Persistent (invs m K c) := by unfold invs; infer_instance

/-- The tokens of the duties device c pays: a unit on each neighbour's barrier, its local copy, its three sources read, its
    right neighbour's three landings. -/
def tokens (c : Dev nD) : sProp 𝕄 :=
  iprop(dutyTok ER (barCell (prv c)) 0 true ∗ dutyTok ER (barCell (nxt c)) 0 false
    ∗ dutyTok ER (cell c 0) 0 false
    ∗ (dutyTok ER (cell c (sentK 0)) 0 false ∗ dutyTok ER (cell c (sentK 1)) 0 false ∗ dutyTok ER (cell c (sentK 2)) 0 false)
    ∗ (dutyTok ER (cell (nxt c) (landK 0)) 0 false ∗ dutyTok ER (cell (nxt c) (landK 1)) 0 false ∗ dutyTok ER (cell (nxt c) (landK 2)) 0 false))

/-- What device c carries from the launch up to the gather: the invariants' names, its place on its barrier, the right to open
    its seven dormant cells, that its neighbours' barriers are in their first round, and its tokens. -/
def ghost (K : GSem nD τ sig → ℕ) (c : Dev nD) : sProp 𝕄 :=
  iprop(invs m K c ∗ atPos ER (barCell c) 0 ∅ 0 ∗ (bigSep Finset.univ fun k : Fin 7 => openTok ER (cell c k))
    ∗ reached ER (barCell (prv c)) 0 ∗ reached ER (barCell (nxt c)) 0 ∗ tokens c)

/-- The same with the seven cells open. -/
def opened (K : GSem nD τ sig → ℕ) (c : Dev nD) : sProp 𝕄 :=
  iprop(invs m K c ∗ atPos ER (barCell c) 0 ∅ 0
    ∗ (bigSep Finset.univ fun k : Fin 7 => atPos ER (cell c k) 0 ∅ 0) ∗ (bigSep Finset.univ fun k : Fin 7 => reached ER (cell c k) 0)
    ∗ reached ER (barCell (prv c)) 0 ∗ reached ER (barCell (nxt c)) 0 ∗ tokens c)

/-- The credit device c waits with: two units on its barrier, a slot's credit on each landing. -/
def credit (c : Dev nD) : sProp 𝕄 :=
  iprop(cred (tallyAt (barCell c) () 2)
    ∗ cred (tallyAt (cell c (landK 0)) () N) ∗ cred (tallyAt (cell c (landK 1)) () N) ∗ cred (tallyAt (cell c (landK 2)) () N))

/-- A cell whose round has been waited for is closed, its counter at zero. -/
theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

abbrev 𝒱₀ : Variants := Variants.none

end Cert.KernelIdeal.Gather
-- ==== Proof.KernelIdeal.Steps.lean ====
/-
  The steps of the gather on one device: a transfer to the right neighbour, the local copy, and a wait on one of the seven
  semaphores, each by what it needs and what it brings.
-/
module

public import proofs.«01_k».proof.Proof.KernelIdeal.Protocol

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- What device c owes, whatever it has waited on. -/
def owing (c : Dev nD) (O : CellTallies nD τ sig Unit) : sProp 𝕄 := iprop(∃ W, owes (c : Thread nD τ) O W)

theorem paid_copy (c : Dev nD) : paid m c 0 = iprop(slotHas m c c ∗ xPts m c) := rfl
theorem paid_sent (c : Dev nD) (h : Fin 3) : paid m c (sentK h) = slotHas m c (owner c h) := by fin_cases h <;> rfl
theorem paid_land (c : Dev nD) (h : Fin 3) : paid m c (landK h) = slotHas m c (owner (prv c) h) := by fin_cases h <;> rfl

/-- What is owed with a transfer to go is what is owed without it, and its landing. -/
theorem due_step (c : Dev nD) (h : Fin 3) : due c (3 - h.val) = due c (2 - h.val) + tallyAt (cell (nxt c) (landK h)) () N := by
  fin_cases h <;> rfl

/-- A slot's points-to at any contents that are the gathered array's there. -/
theorem slot_congr (c s : Dev nD) {f : (main_v1 : Ref sig .tc).ty.Contents (Elt F)} (h : ∀ i ∈ slotSet s, f i = gath m i) :
    (slotPts c s f : sProp 𝕄) = slotHas m c s := pointsTo_congr h

/-- The transfer of step h: the slot goes out and its landing is no longer owed; credit comes for the wait on the source. -/
theorem wp_send (c : Dev nD) (h : Fin 3) {v : Memref sig .tc .hbm S2048x8192 .bf16} {n : Dev nD} {sS sem : SemLoc sig}
    (hv : v = slot (owner c h)) (hn : n = nxt c) (hS : sS = own (sentK h)) (hR : sem = own (landK h))
    {hsc : v.view.ref.isScScratch = false} {hsrc hdst : v.view.WordExact}
    {hsem : DmaTarget.Typed .hbm sem (.remote (n : Thread nD τ) v sS hsc)}
    {α : Type} {Q : α → sProp 𝕄} {k : PUnit → Prog (TpuEff nD τ sig (Elt F) Λ₀ .tc) α} {κ₁ κ₂ : ℕ} :
    iprop(cellInv ER (rd m) κ₁ (cell c (sentK h)) ∗ cellInv ER (rd m) κ₂ (cell (nxt c) (landK h))
        ∗ slotHas m c (owner c h) ∗ (∃ f, slotPts (nxt c) (owner c h) f) ∗ owing c (due c (3 - h.val))
        ∗ dutyTok ER (cell c (sentK h)) 0 false ∗ reached ER (cell c (sentK h)) 0
        ∗ dutyTok ER (cell (nxt c) (landK h)) 0 false ∗ reached ER (cell (nxt c) (landK h)) 0)
      ⊢ iprop(((cred (tallyAt (cell c (sentK h)) () N) ∗ owing c (due c (2 - h.val)))
            -∗ wp frame (wpE (defs₀ (F := F)) 𝒱₀ c none) Set.univ (k ⟨⟩) Q)
          -∗ wp frame (wpE (defs₀ (F := F)) 𝒱₀ c none) Set.univ
            (.op (.enqueueDma v (.remote (n : Thread nD τ) v sS hsc) sem hsrc hdst hsem) k) Q) := by
  subst hv hn hS hR
  unfold owing
  iintro ⟨HI, HJ, Hs, ⟨%f, Hd⟩, ⟨%W, HO⟩, Ht, Hr, Ht', Hr'⟩ Hk
  iapply (Rounds.wp_send_pointsTo 𝒱₀ ER (rd m) (c : Thread nD τ) none (c' := (nxt c : Thread nD τ)) (src := slot (owner c h))
      (dst := slot (owner c h)) (q := fullShare) (fs := gath m) (fd := f) (κ₁ := κ₁) (κ₂ := κ₂)
      (r₁ := 0) (r₂ := 0) (d₁ := false) (d₂ := false)
      (by rw [duties_own]; exact Finset.mem_singleton_self _) (by rw [duties_own]; exact Finset.mem_singleton_self _)
      () () N rfl (amount_own m c _ _) (amount_own m (nxt c) _ _) (due c (2 - h.val)) (due_step c h)
      (by rw [payload_own, paid_sent])
      (by rw [payload_own, paid_land, prv_nxt]; exact Entails.of_eq (slot_congr m (nxt c) _ (forwarded m _ _))))
    $$ [HI HJ Hs Hd HO Ht Hr Ht' Hr']
  · isplitl [HI]; · iexact HI
    isplitl [HJ]; · iexact HJ
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

/-- The local copy: the device's block and its own slot go out, credit comes for the wait. -/
theorem wp_place (c : Dev nD) {v : Memref sig .tc .hbm S2048x8192 .bf16} {sem : SemLoc sig}
    (hv : v = slot c) (hS : sem = own 0) {hsrc : (xM : Memref sig .tc .hbm S2048x8192 .bf16).view.WordExact} {hdst : v.view.WordExact}
    {hsem : DmaTarget.Typed (nD := nD) (τ := τ) (p := .tc) .hbm sem (.here v)}
    {α : Type} {Q : α → sProp 𝕄} {k : PUnit → Prog (TpuEff nD τ sig (Elt F) Λ₀ .tc) α} {κ : ℕ} :
    iprop(cellInv ER (rd m) κ (cell c 0) ∗ xPts m c ∗ (∃ f, slotPts c c f) ∗ dutyTok ER (cell c 0) 0 false ∗ reached ER (cell c 0) 0)
      ⊢ iprop((cred (tallyAt (cell c 0) () N) -∗ wp frame (wpE (defs₀ (F := F)) 𝒱₀ c none) Set.univ (k ⟨⟩) Q)
          -∗ wp frame (wpE (defs₀ (F := F)) 𝒱₀ c none) Set.univ (.op (.enqueueDma xM (.here v) sem hsrc hdst hsem) k) Q) := by
  subst hv hS
  iintro ⟨HI, Hx, ⟨%f, Hd⟩, Ht, Hr⟩ Hk
  iapply (Rounds.wp_copy_pointsTo 𝒱₀ ER (rd m) (c : Thread nD τ) none (src := xM) (dst := slot c) (sem := own 0) (q := fullShare)
      (fs := m ((c : Thread nD τ).loc main_arg0)) (fd := f) (r := 0) (d := false) (κ := κ)
      (by rw [duties_own]; exact Finset.mem_singleton_self _) () N rfl (amount_own m c 0 _)
      (by
        rw [payload_own]
        show _ ⊢ iprop(slotHas m c c ∗ xPts m c)
        rw [← slot_congr m c c (placed m c f)])) $$ [HI Hx Hd Ht Hr]
  · isplitl [HI]; · iexact HI
    isplitl [Hx]; · iexact Hx
    isplitl [Hd]; · iexact Hd
    isplitl [Ht]; · iexact Ht
    iexact Hr
  iexact Hk

/-- A wait on one of the seven semaphores with n transfers still to go: what its raise pays comes back. -/
theorem wp_await (c : Dev nD) (j : Fin 7) (n : ℕ) (hn : n ≤ 3) (hl : lv (cell c j) () + n < 5)
    {sem : DmaSem sig} (hs : .dma sem = own j) {v : Memref sig .tc .hbm S2048x8192 .bf16} {off : Fin 3 → ℕ}
    {ho : ∀ a, off a + S1x2048x8192.size a ≤ S4x2048x8192.size a} {h : v.view.WordExact} {h' : (blockAt off ho).view.WordExact}
    {α : Type} {Q : α → sProp 𝕄} {k : PUnit → Prog (TpuEff nD τ sig (Elt F) Λ₀ .tc) α} {κ : ℕ} :
    iprop(cellInv ER (rd m) κ (cell c j) ∗ cred (tallyAt (cell c j) () N) ∗ owing c (due c n) ∗ levAts L lv ∗ atPos ER (cell c j) 0 ∅ 0)
      ⊢ iprop(((owing c (due c n) ∗ atPos ER (cell c j) (0 + 1) ∅ 0 ∗ paid m c j)
            -∗ wp frame (wpE (defs₀ (F := F)) 𝒱₀ c none) Set.univ (k ⟨⟩) Q)
          -∗ wp frame (wpE (defs₀ (F := F)) 𝒱₀ c none) Set.univ (.op (.waitDma2 sem v (blockAt off ho) h h') k) Q) := by
  unfold owing
  iintro ⟨HI, Hc, ⟨%W, HO⟩, Hlev, Ha⟩ Hk
  iapply (Rounds.wp_wait_rest_token 𝒱₀ ER (rd m) (c : Thread nD τ) none (κ := κ)
      (fun K => by rw [wpE_waitDma2_eq, hs]) (Set.mem_univ _) () (O := due c n) (W := W)
      (R := 0) (m := 0) (T := ∅) ((Nat.zero_add _).trans (expect_own m c j).symm)) $$ [HI Hc HO Hlev Ha]
  · isplitl [HI]; · iexact HI
    isplitl [Hc]; · iexact Hc
    isplitl [HO]; · iexact HO
    isplitl [Hlev]; · iapply (mayWait c (own j) n hn hl); iexact Hlev
    iexact Ha
  iintro ⟨HO, Ha, -, Hp⟩
  iapply Hk
  isplitl [HO]; · iexists _; iexact HO
  isplitl [Ha]; · iexact Ha
  iapply (Entails.of_eq (round_own m c j)); iexact Hp

/-- The wait on the barrier for both neighbours, with all three transfers to go: the slots to write come with it. -/
theorem wp_meet (c : Dev nD) {α : Type} {Q : α → sProp 𝕄} {k : PUnit → Prog (TpuEff nD τ sig (Elt F) Λ₀ .tc) α} {κ : ℕ} :
    iprop(cellInv ER (rd m) κ (barCell c) ∗ cred (tallyAt (barCell c) () 2) ∗ owing c (due c 3) ∗ levAts L lv ∗ atPos ER (barCell c) 0 ∅ 0)
      ⊢ iprop(((owing c (due c 3) ∗ atPos ER (barCell c) (0 + 1) ∅ 0 ∗ lent c)
            -∗ wp frame (wpE (defs₀ (F := F)) 𝒱₀ c none) Set.univ (k ⟨⟩) Q)
          -∗ wp frame (wpE (defs₀ (F := F)) 𝒱₀ c none) Set.univ (.op (.semWait barrier0 (2 : ℕ)) k) Q) := by
  unfold owing
  iintro ⟨HI, Hc, ⟨%W, HO⟩, Hlev, Ha⟩ Hk
  iapply (Rounds.wp_wait_rest_token 𝒱₀ ER (rd m) (c : Thread nD τ) none (κ := κ) (wpE_semWait_eq 𝒱₀ (c : Thread nD τ) none Set.univ)
      (Set.mem_univ _) () (O := due c 3) (W := W) (R := 0) (m := 0) (T := ∅) ((Nat.zero_add _).trans (expect_bar m c).symm))
    $$ [HI Hc HO Hlev Ha]
  · isplitl [HI]; · iexact HI
    isplitl [Hc]; · iexact Hc
    isplitl [HO]; · iexact HO
    isplitl [Hlev]; · iapply (mayWait c barS 3 (Nat.le_refl 3) (by rw [lv_bar]; decide)); iexact Hlev
    iexact Ha
  iintro ⟨HO, Ha, -, Hp⟩
  iapply Hk
  isplitl [HO]; · iexists _; iexact HO
  isplitl [Ha]; · iexact Ha
  iapply (round_bar m c); iexact Hp

/-- A raise of a neighbour's barrier by one: what it hands over goes out, the unit is no longer owed. -/
theorem wp_raise (c n n' : Dev nD) (d : Bool) (O : CellTallies nD τ sig Unit) (hn : n' = n) {α : Type} {Q : α → sProp 𝕄} {k : PUnit → Prog (TpuEff nD τ sig (Elt F) Λ₀ .tc) α} {κ : ℕ} :
    iprop(cellInv ER (rd m) κ (barCell n) ∗ owing c (O + tallyAt (barCell n) () 1) ∗ dutyTok ER (barCell n) 0 d
        ∗ (rd m).payload (barCell n) 0 d ∗ reached ER (barCell n) 0)
      ⊢ iprop((owing c O -∗ wp frame (wpE (defs₀ (F := F)) 𝒱₀ c none) Set.univ (k ⟨⟩) Q)
          -∗ wp frame (wpE (defs₀ (F := F)) 𝒱₀ c none) Set.univ (.op (.semSignal (n' : Thread nD τ) barrier0 (1 : ℕ)) k) Q) := by
  subst hn
  unfold owing
  iintro ⟨HI, ⟨%W, HO⟩, Ht, Hp, Hr⟩ Hk
  iapply (Rounds.wp_signal 𝒱₀ ER (rd m) (c : Thread nD τ) none (dst := (n' : Thread nD τ)) (sem := barrier0) (r := 0) (d := d) (κ := κ)
      (by rw [duties_bar]; cases d <;> decide) (amount_bar m n' d) () O rfl (W := W)) $$ [HI HO Ht Hp Hr]
  · isplitl [HI]; · iexact HI
    isplitl [HO]; · iexact HO
    isplitl [Ht]; · iexact Ht
    isplitl [Hp]; · iexact Hp
    iexact Hr
  iintro HO
  iapply Hk
  iexists _; iexact HO

end Cert.KernelIdeal.Gather
-- ==== Proof.KernelIdeal.Talk.lean ====
/-
  The gather's body on device c: both neighbours are met on the barrier, the device's block is put into its own slot, and the
  three transfers go round the ring. It leaves every slot holding its device's block.
-/
module

public import proofs.«01_k».proof.Proof.KernelIdeal.Steps
public import proofs.«01_k».proof.Proof.Gen.KernelIdeal.Points

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

theorem over_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem over_three (Φ : Fin 3 → sProp 𝕄) : bigSep Finset.univ Φ = iprop(Φ 0 ∗ Φ 1 ∗ Φ 2) :=
  bigSep_univ_eq_bigSepL [0, 1, 2] (by decide) (by decide) Φ

/-- Before the body: the opened ghost state and credit, the four slots at any contents, the device's block, what is owed. -/
def talkPre (K : GSem nD τ sig → ℕ) (c : Dev nD) : sProp 𝕄 :=
  iprop(opened m K c ∗ credit c ∗ levAts L lv
    ∗ ((∃ f, slotPts c c f) ∗ (∃ f, slotPts c (owner (prv c) 0) f) ∗ (∃ f, slotPts c (owner (prv c) 1) f) ∗ (∃ f, slotPts c (owner (prv c) 2) f))
    ∗ xPts m c ∗ owing c (O₀ c))

/-- After it: every counter at zero, every slot at its device's block, the device's block, nothing owed. -/
def talkPost (c : Dev nD) : sProp 𝕄 :=
  iprop(semVal (barCell c) 0 ∗ (bigSep Finset.univ fun k : Fin 7 => semVal (cell c k) 0)
    ∗ (slotHas m c c ∗ slotHas m c (owner (prv c) 0) ∗ slotHas m c (owner (prv c) 1) ∗ slotHas m c (owner (prv c) 2))
    ∗ xPts m c ∗ owing c 0)

set_option maxHeartbeats 2000000 in
/-- The gather's body takes the one to the other. -/
theorem talkRun (K : GSem nD τ sig → ℕ) (c : Dev nD) (t : Fin cfg0.N) (Kt : PUnit → sProp 𝕄) :
    iprop(talkPre m K c ∗ (talkPost m c -∗ Kt ⟨⟩))
      ⊢ wp frame (wpE (defs₀ (F := F)) 𝒱₀ c none) Set.univ (bodyAt0 (F := F) t) Kt := by
  unfold bodyAt0
  rw [cc0__ag_body_eq_skeleton]
  unfold cc0__ag_body_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, wp_deviceId, semSignalWord, semWaitWord, Prog.pure_eq_ret]
  unfold talkPre opened invs credit tokens
  simp only [over_seven, over_three]
  iintro ⟨⟨⟨⟨#Ib, ⟨#I0, #I1, #I2, #I3, #I4, #I5, #I6⟩, #Ip, #In, #J0, #J1, #J2⟩, Ab, ⟨A0, A1, A2, A3, A4, A5, A6⟩,
    ⟨#R0, #R1, #R2, #R3, #R4, #R5, #R6⟩, #Rp, #Rn, Tp, Tn, T0, ⟨T1, T2, T3⟩, ⟨T4, T5, T6⟩⟩, ⟨Cb, C4, C5, C6⟩, #Hlev,
    ⟨Sc, S0, S1, S2⟩, Hx, HO⟩, Hk⟩
  -- both neighbours' barriers are raised: the left one's with the slots it will write
  iapply (wp_raise m c (prv c) _ true (due c 3 + tallyAt (barCell (nxt c)) () 1) (dev1_eq c) (κ := K (barCell (prv c)))) $$ [HO Tp S0 S1 S2]
  · isplitr; · iexact Ip
    isplitl [HO]; · iexact HO
    isplitl [Tp]; · iexact Tp
    isplitl [S0 S1 S2]
    · rw [payload_bar_right]; unfold lent; rw [nxt_prv]
      isplitl [S0 S1 S2]
      · isplitl [S0]; · iexact S0
        isplitl [S1]; · iexact S1
        iexact S2
      isplitr; · iexact R4
      isplitr; · iexact R5
      iexact R6
    iexact Rp
  iintro HO
  iapply (wp_raise m c (nxt c) _ false (due c 3) (dev2_eq c) (κ := K (barCell (nxt c)))) $$ [HO Tn]
  · isplitr; · iexact In
    isplitl [HO]; · iexact HO
    isplitl [Tn]; · iexact Tn
    isplitr; · rw [payload_bar_left]; iempintro
    iexact Rn
  iintro HO
  iapply (wp_meet m c (κ := K (barCell c))) $$ [Cb HO Ab]
  · isplitr; · iexact Ib
    isplitl [Cb]; · iexact Cb
    isplitl [HO]; · iexact HO
    isplitr; · iexact Hlev
    iexact Ab
  unfold lent
  iintro ⟨HO, Ab, ⟨D0, D1, D2⟩, #Q0, #Q1, #Q2⟩
  -- the device's own block goes into its slot
  iapply (wp_place m c (blockAt_eq c _ _ (k0_off1_eq c)) rfl (κ := K (cell c 0))) $$ [Hx Sc T0]
  · isplitr; · iexact I0
    isplitl [Hx]; · iexact Hx
    isplitl [Sc]; · iexact Sc
    isplitl [T0]; · iexact T0
    iexact R0
  iintro C0
  iapply (wp_await m c 0 3 (by decide) (by rw [lv_own]; decide) rfl (κ := K (cell c 0))) $$ [C0 HO A0]
  · isplitr; · iexact I0
    isplitl [C0]; · iexact C0
    isplitl [HO]; · iexact HO
    isplitr; · iexact Hlev
    iexact A0
  iintro ⟨HO, A0, Hp⟩
  ihave Hp := (Entails.of_eq (paid_copy m c)) $$ Hp
  icases Hp with ⟨Sc, Hx⟩
  -- step 0: the device's own slot
  iapply (wp_send m c 0 (blockAt_eq _ _ _ (off2_zero c)) (dev3_eq c) rfl rfl (κ₁ := K (cell c (sentK 0))) (κ₂ := K (cell (nxt c) (landK 0))))
    $$ [Sc D0 HO T1 T4]
  · isplitr; · iexact I1
    isplitr; · iexact J0
    isplitl [Sc]; · iexact Sc
    isplitl [D0]; · iexact D0
    isplitl [HO]; · iexact HO
    isplitl [T1]; · iexact T1
    isplitr; · iexact R1
    isplitl [T4]; · iexact T4
    iexact Q0
  iintro ⟨C1, HO⟩
  iapply (wp_await m c (sentK 0) 2 (by decide) (by rw [lv_own]; decide) rfl (κ := K (cell c (sentK 0)))) $$ [C1 HO A1]
  · isplitr; · iexact I1
    isplitl [C1]; · iexact C1
    isplitl [HO]; · iexact HO
    isplitr; · iexact Hlev
    iexact A1
  iintro ⟨HO, A1, Sc⟩
  ihave Sc := (Entails.of_eq (paid_sent m c 0)) $$ Sc
  iapply (wp_await m c (landK 0) 2 (by decide) (by rw [lv_own]; decide) rfl (κ := K (cell c (landK 0)))) $$ [C4 HO A4]
  · isplitr; · iexact I4
    isplitl [C4]; · iexact C4
    isplitl [HO]; · iexact HO
    isplitr; · iexact Hlev
    iexact A4
  iintro ⟨HO, A4, S0⟩
  ihave S0 := (Entails.of_eq (paid_land m c 0)) $$ S0
  -- step 1: the slot that came at step 0
  iapply (wp_send m c 1 (blockAt_eq _ _ _ (off2_one c)) (dev4_eq c) rfl rfl (κ₁ := K (cell c (sentK 1))) (κ₂ := K (cell (nxt c) (landK 1))))
    $$ [S0 D1 HO T2 T5]
  · isplitr; · iexact I2
    isplitr; · iexact J1
    isplitl [S0]; · iexact S0
    isplitl [D1]; · iexact D1
    isplitl [HO]; · iexact HO
    isplitl [T2]; · iexact T2
    isplitr; · iexact R2
    isplitl [T5]; · iexact T5
    iexact Q1
  iintro ⟨C2, HO⟩
  iapply (wp_await m c (sentK 1) 1 (by decide) (by rw [lv_own]; decide) rfl (κ := K (cell c (sentK 1)))) $$ [C2 HO A2]
  · isplitr; · iexact I2
    isplitl [C2]; · iexact C2
    isplitl [HO]; · iexact HO
    isplitr; · iexact Hlev
    iexact A2
  iintro ⟨HO, A2, S0⟩
  ihave S0 := (Entails.of_eq (paid_sent m c 1)) $$ S0
  iapply (wp_await m c (landK 1) 1 (by decide) (by rw [lv_own]; decide) rfl (κ := K (cell c (landK 1)))) $$ [C5 HO A5]
  · isplitr; · iexact I5
    isplitl [C5]; · iexact C5
    isplitl [HO]; · iexact HO
    isplitr; · iexact Hlev
    iexact A5
  iintro ⟨HO, A5, S1⟩
  ihave S1 := (Entails.of_eq (paid_land m c 1)) $$ S1
  -- step 2: the slot that came at step 1
  iapply (wp_send m c 2 (blockAt_eq _ _ _ (off2_two c)) (dev5_eq c) rfl rfl (κ₁ := K (cell c (sentK 2))) (κ₂ := K (cell (nxt c) (landK 2))))
    $$ [S1 D2 HO T3 T6]
  · isplitr; · iexact I3
    isplitr; · iexact J2
    isplitl [S1]; · iexact S1
    isplitl [D2]; · iexact D2
    isplitl [HO]; · iexact HO
    isplitl [T3]; · iexact T3
    isplitr; · iexact R3
    isplitl [T6]; · iexact T6
    iexact Q2
  iintro ⟨C3, HO⟩
  iapply (wp_await m c (sentK 2) 0 (by decide) (by rw [lv_own]; decide) rfl (κ := K (cell c (sentK 2)))) $$ [C3 HO A3]
  · isplitr; · iexact I3
    isplitl [C3]; · iexact C3
    isplitl [HO]; · iexact HO
    isplitr; · iexact Hlev
    iexact A3
  iintro ⟨HO, A3, S1⟩
  ihave S1 := (Entails.of_eq (paid_sent m c 2)) $$ S1
  iapply (wp_await m c (landK 2) 0 (by decide) (by rw [lv_own]; decide) rfl (κ := K (cell c (landK 2)))) $$ [C6 HO A6]
  · isplitr; · iexact I6
    isplitl [C6]; · iexact C6
    isplitl [HO]; · iexact HO
    isplitr; · iexact Hlev
    iexact A6
  iintro ⟨HO, A6, S2⟩
  ihave S2 := (Entails.of_eq (paid_land m c 2)) $$ S2
  -- every cell is closed
  rw [wp_ret]
  imod (close m (K (barCell c)) (barCell c)) $$ [Ab] with Vb
  · isplitr; · iexact Ib
    iexact Ab
  imod (close m (K (cell c 0)) (cell c 0)) $$ [A0] with V0
  · isplitr; · iexact I0
    iexact A0
  imod (close m (K (cell c (sentK 0))) (cell c (sentK 0))) $$ [A1] with V1
  · isplitr; · iexact I1
    iexact A1
  imod (close m (K (cell c (sentK 1))) (cell c (sentK 1))) $$ [A2] with V2
  · isplitr; · iexact I2
    iexact A2
  imod (close m (K (cell c (sentK 2))) (cell c (sentK 2))) $$ [A3] with V3
  · isplitr; · iexact I3
    iexact A3
  imod (close m (K (cell c (landK 0))) (cell c (landK 0))) $$ [A4] with V4
  · isplitr; · iexact I4
    iexact A4
  imod (close m (K (cell c (landK 1))) (cell c (landK 1))) $$ [A5] with V5
  · isplitr; · iexact I5
    iexact A5
  imod (close m (K (cell c (landK 2))) (cell c (landK 2))) $$ [A6] with V6
  · isplitr; · iexact I6
    iexact A6
  imodintro
  iapply Hk
  unfold talkPost
  rw [over_seven]
  isplitl [Vb]; · iexact Vb
  isplitl [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  isplitl [Sc S0 S1 S2]
  · isplitl [Sc]; · iexact Sc
    isplitl [S0]; · iexact S0
    isplitl [S1]; · iexact S1
    iexact S2
  isplitl [Hx]; · iexact Hx
  iexact HO

end Cert.KernelIdeal.Gather
-- ==== Proof.KernelIdeal.Gemm.lean ====
/-
  The second call: the tiled product of the gathered array with the device's block of the right operand, its proof data
  read off the buffers as the gather leaves them, and the array it writes, block by block.
-/
module

public import proofs.«01_k».proof.Proof.Gen.KernelIdeal.Points
public import proofs.«01_k».proof.Proof.KernelIdeal.Talk
public import Idealize.ShloMosaic.Lib.Pipeline.FrameBody
public import Idealize.ShloMosaic.Lib.Pipeline.Value
public import Idealize.ShloMosaic.Lib.Claim
public import Idealize.ShloMosaic.Lib.Tactic
public import Idealize.ShloMosaic.Lib.WordCmp

@[expose] public section

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The buffers' contents at the two calls -/

/-- The device's buffers as launched. -/
abbrev V₀ (c : Dev nD) : Valuation τ sig (Elt F) := fun b => m ((c : Dev nD), b)

/-- The device's buffers after the gather: as launched, but for the gathered array. -/
def V₁ (c : Dev nD) : Valuation τ sig (Elt F) := Function.update (V₀ m c) (Proc.devRef .tc main_v1) (gath m)

theorem V₁_gathered (c : Dev nD) : V₁ m c main_v1 = gath m := Function.update_self _ _ _

theorem V₁_of_ne (c : Dev nD) (b : Ref sig .tc) (h : (Proc.devRef .tc b : DevRef τ sig) ≠ Proc.devRef .tc main_v1) :
    V₁ m c b = m ((c : Thread nD τ).loc b) := Function.update_of_ne h _ _

theorem V₁_arg0 (c : Dev nD) : V₁ m c main_arg0 = m ((c : Thread nD τ).loc main_arg0) := V₁_of_ne m c main_arg0 (by decide)
theorem V₁_arg1 (c : Dev nD) : V₁ m c main_arg1 = m ((c : Thread nD τ).loc main_arg1) := V₁_of_ne m c main_arg1 (by decide)
theorem V₁_out (c : Dev nD) : V₁ m c main_v2 = m ((c : Thread nD τ).loc main_v2) := V₁_of_ne m c main_v2 (by decide)

/-! ## The body at one grid point -/

/-- The whole of each staged block. -/
abbrev wholeX : Rect S1x256x8192 := Rect.unit (s := S1x256x8192) ![0, 0, 0] S1x256x8192.size inb_S1x256x8192_S1x256x8192_0_0_0
abbrev wholeW : Rect S8192x1024 := Rect.unit (s := S8192x1024) ![0, 0] S8192x1024.size inb_S8192x1024_S8192x1024_0_0
abbrev wholeY : Rect S256x1024 := Rect.unit (s := S256x1024) ![0, 0] S256x1024.size inb_S256x1024_S256x1024_0_0

/-- The block the body writes, from the two it reads. -/
def tile (x : Vec F S1x256x8192 .bf16) (w : Vec F S8192x1024 .bf16) : Vec F S256x1024 .f32 :=
  View.canon [⟨wholeY, k1_pay1 (View.ld x wholeX) (View.ld w wholeW)⟩]

theorem tile_cover (p : Vec F S256x1024 .f32) (y : S256x1024.Idx) :
    ∃ pc ∈ ([⟨wholeY, p⟩] : List (View.Piece (Elt F) S256x1024 .f32)), y ∈ pc.1.set :=
  View.cover_of_tiled [⟨wholeY, p⟩] S256x1024.size (by rfl) y

set_option maxHeartbeats 1000000 in
/-- The body, on any three whole staging buffers: the two it reads stay as they were and the third is left at `tile`. -/
theorem gemmRun (c : Dev nD) (i : grid1.Coords) (bx : Memref sig .tc .vmem S1x256x8192 .bf16) (hx : bx.IsWhole)
    (bw : Memref sig .tc .vmem S8192x1024 .bf16) (hw : bw.IsWhole) (bo : Memref sig .tc .vmem S256x1024 .f32) (ho : bo.IsWhole)
    (x : Vec F S1x256x8192 .bf16) (w : Vec F S8192x1024 .bf16) (K : PUnit → sProp 𝕄) :
    iprop(owns (c : Thread nD τ) bx fullShare x ∗ owns (c : Thread nD τ) bw fullShare w ∗ (∃ d, owns (c : Thread nD τ) bo fullShare d)
        ∗ (iprop(owns (c : Thread nD τ) bx fullShare x ∗ owns (c : Thread nD τ) bw fullShare w
            ∗ owns (c : Thread nD τ) bo fullShare (tile x w)) -∗ K ⟨⟩))
      ⊢ wp frame (wpE (defs₀ (F := F)) 𝒱₀ c none) Set.univ (cc1__gemm_body i bx hx bw hw bo ho) K := by
  simp only [cc1__gemm_body_eq_skeleton]; unfold cc1__gemm_body_skel owns
  iintro ⟨⟨%fx, %ex, Hx⟩, ⟨%fw, %ew, Hw⟩, ⟨%d, %fo, -, Ho⟩, Hk⟩
  subst ex ew
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (tile_cover _)

/-! ## The call's proof data -/

/-- Window w's block at grid point t, read off its array as the gather leaves it. -/
def blockOf (c : Dev nD) (w : Fin cfg1.W) (t : Fin cfg1.N) :
    ((cfg1.win w).xblock (cfg1.grid.coords t)).Idx → Elt F (cfg1.win w).elt :=
  ((cfg1.win w).blk t).view.read (Elt F) (V₁ m c (Pipeline.arrRef spec1 w))

/-- The arrays as the gather leaves them; each operand's block left in place and the result's left at the tile; nothing owed. -/
def dat1 (c : Dev nD) : Dat τ (Elt F) Unit ℕ UU ℕ cfg1 c where
  A w := V₁ m c (Pipeline.arrRef spec1 w)
  after w t := match w with
    | ⟨0, _⟩ => blockOf m c 0 t
    | ⟨1, _⟩ => blockOf m c 1 t
    | ⟨2, _⟩ => tile (blockOf m c 0 t) (blockOf m c 1 t)
  Φ _ := Pipeline.ΦA spec1 c
  q _ := fullShare
  owed _ := 0

theorem dat1_A (c : Dev nD) (w : Fin cfg1.W) : (dat1 m c).A w = V₁ m c (Pipeline.arrRef spec1 w) := by dsimp only [dat1]
theorem dat1_after0 (c : Dev nD) (t : Fin cfg1.N) : (dat1 m c).after 0 t = blockOf m c 0 t := by dsimp only [dat1]
theorem dat1_after1 (c : Dev nD) (t : Fin cfg1.N) : (dat1 m c).after 1 t = blockOf m c 1 t := by dsimp only [dat1]
theorem dat1_after2 (c : Dev nD) (t : Fin cfg1.N) : (dat1 m c).after 2 t = tile (blockOf m c 0 t) (blockOf m c 1 t) := by dsimp only [dat1]

/-- An operand's staging buffer holds its block whenever the body runs. -/
theorem dat1_before0 (c : Dev nD) (t : Fin cfg1.N) (d) : (dat1 m c).before 0 t d = blockOf m c 0 t :=
  ((dat1 m c).before_in_eq_fetched 0 rfl (fun _ => rfl) (fun _ _ _ => rfl)
    (fun t => by rw [dat1_after0]; unfold Dat.blockOf blockOf; rw [dat1_A]; try rfl) t d).trans
    (by unfold Dat.fetched Dat.blockOf blockOf; rw [dat1_A]; try rfl)
theorem dat1_before1 (c : Dev nD) (t : Fin cfg1.N) (d) : (dat1 m c).before 1 t d = blockOf m c 1 t :=
  ((dat1 m c).before_in_eq_fetched 1 rfl (fun _ => rfl) (fun _ _ _ => rfl)
    (fun t => by rw [dat1_after1]; unfold Dat.blockOf blockOf; rw [dat1_A]; try rfl) t d).trans
    (by unfold Dat.fetched Dat.blockOf blockOf; rw [dat1_A]; try rfl)

/-- What the body starts from at a grid point, window by window. -/
def gemmPre (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d)))

/-- What it ends with. -/
def gemmPost (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t))

theorem gemmPoint (c : Dev nD) (t : Fin cfg1.N) :
    gemmPre m c t ⊢ wp frame (wpE (defs₀ (F := F)) 𝒱₀ c none) Set.univ (bodyAt1 t) (fun _ => gemmPost m c t) := by
  unfold gemmPre gemmPost bodyAt1
  simp only [dat1_before0, dat1_before1]
  rw [show (dat1 m c).Φ t.succ = (dat1 m c).Φ t.castSucc from rfl,
    show (dat1 m c).owesAt () t.succ = (dat1 m c).owesAt () t.castSucc from rfl, dat1_after0, dat1_after1, dat1_after2]
  iintro ⟨HΦ, Howe, ⟨%d0, H0⟩, ⟨%d1, H1⟩, ⟨%d2, H2⟩⟩
  iapply (gemmRun c (grid1.coords t) _ _ _ _ _ _ (blockOf m c 0 t) (blockOf m c 1 t) _)
  isplitl [H0]; · iexact H0
  isplitl [H1]; · iexact H1
  isplitl [H2]; · iexists _; iexact H2
  iintro ⟨H0, H1, H2⟩
  isplitl [HΦ]; · iexact HΦ
  isplitl [Howe]; · iexact Howe
  isplitl [H0]; · iexact H0
  isplitl [H1]; · iexact H1
  iexact H2

theorem gemm_row (t : Fin cfg1.N) : defs₀ (F := F) .tc cfg1.body (cfg1.bodyArgs t (cfg1.slots t)) = bodyAt1 t := by
  unfold defs₀; rw [Defs.onTc_tc]

/-- The body at every grid point, as the pipeline asks for it. -/
theorem body1 (c : Dev nD) : BodyObligation (dat1 (F := F) m c) (defs₀ (F := F)) 𝒱₀ () Set.univ := fun t => by
  rw [bigSep_W1, bigSep_W1, gemm_row]
  exact triple_restated (gemmPoint m c t) rfl .rfl fun _ => .rfl

/-! ## The array it writes -/

/-- What the last window's write-back carries at a grid point. -/
theorem flushed_tile (c : Dev nD) (t : Fin cfg1.N) :
    (dat1 m c).flushed 2 t = tile (blockOf m c 0 t) (blockOf m c 1 t) := by
  show (cfg1.win 2).cut (cfg1.grid.coords t) ((dat1 m c).after 2 t) = _
  rw [dat1_after2]; rfl

/-- Two grid points write different blocks. -/
theorem block_inj : ∀ t t' : Fin cfg1.N, win1_2.index t = win1_2.index t' → t = t' :=
  (by decide +kernel : ∀ t t' : Fin grid1.N, win1_2.index t = win1_2.index t' → t = t')

/-- The written array, read at the block of grid point t, is the tile of that grid point. -/
theorem out_read (c : Dev nD) (t : Fin cfg1.N) :
    ((cfg1.win 2).blk t).view.read (Elt F) ((dat1 m c).arrAt 2 cfg1.N) = tile (blockOf m c 0 t) (blockOf m c 1 t) :=
  ((dat1 m c).read_blk_arrAt_eq_flushed 2
    (fun t t' _ _ h => (cfg1.win 2).disjoint_blk fun e => h (block_inj t t' e)) cfg1.N t t.isLt (flush1_2 t)).trans
    (flushed_tile m c t)

end Cert.KernelIdeal.Gather
-- ==== Proof.KernelIdeal.Region.lean ====
/-
  The two calls as segments of the program: the gather, entered with the ghost state of its protocol and left with the
  gathered array written, and the tiled product, which runs on one device alone.
-/
module

public import proofs.«01_k».proof.Proof.Gen.KernelIdeal.Regions
public import proofs.«01_k».proof.Proof.KernelIdeal.Gemm
public import Idealize.ShloMosaic.Lib.Pipeline.RegionArraysS

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The buffers one by one -/

/-- The program's own buffers, those no call scopes. -/
abbrev bufs : Finset (DevRef τ sig) := Pipeline.ucRefs τ sig

/-- A whole buffer of device c, at contents f. -/
abbrev pt (c : Dev nD) (b : Ref sig .tc) (f : b.ty.Contents (Elt F)) : sProp 𝕄 :=
  (c : Thread nD τ).loc b ↦{fullShare} f

/-- There are four: the two operands, the gathered array, the result. -/
theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2]
    (by decide) (by decide)]
  rfl

theorem xPts_eq (c : Dev nD) : xPts m c = (pt c main_arg0 (m ((c : Thread nD τ).loc main_arg0)) : sProp 𝕄) := by
  unfold xPts; rw [show (xM : Memref sig .tc .hbm S2048x8192 .bf16).view.set = Finset.univ from View.set_whole _]

/-- The four slots, in the order in which device c fills them. -/
theorem over_slots (c : Dev nD) (Φ : Dev nD → sProp 𝕄) :
    bigSep Finset.univ Φ = iprop(Φ c ∗ Φ (owner (prv c) 0) ∗ Φ (owner (prv c) 1) ∗ Φ (owner (prv c) 2)) :=
  bigSep_univ_eq_bigSepL [c, owner (prv c) 0, owner (prv c) 1, owner (prv c) 2]
    (by revert c; decide) (by revert c; decide) Φ

/-- The gathered array held whole is its four slots. -/
theorem gathered_slots (c : Dev nD) (f : (main_v1 : Ref sig .tc).ty.Contents (Elt F)) :
    (pt c main_v1 f : sProp 𝕄)
      = iprop(slotPts c c f ∗ slotPts c (owner (prv c) 0) f ∗ slotPts c (owner (prv c) 1) f ∗ slotPts c (owner (prv c) 2) f) := by
  rw [← over_slots c fun s => slotPts c s f]
  exact Ring.pointsTo_blocks (ℓ := (c : Thread nD τ).loc main_v1) slotSet slots_disjoint slots_cover f

/-! ## The gather's proof data -/

/-- What the gather needs beside what it owes. -/
def before (c : Dev nD) : sProp 𝕄 :=
  iprop((∃ K, opened m K c) ∗ credit c ∗ levAts L lv
    ∗ ((∃ f, slotPts c c f) ∗ (∃ f, slotPts c (owner (prv c) 0) f) ∗ (∃ f, slotPts c (owner (prv c) 1) f) ∗ (∃ f, slotPts c (owner (prv c) 2) f))
    ∗ xPts m c)

/-- What it leaves. -/
def after (c : Dev nD) : sProp 𝕄 :=
  iprop(semVal (barCell c) 0 ∗ (bigSep Finset.univ fun k : Fin 7 => semVal (cell c k) 0)
    ∗ (slotHas m c c ∗ slotHas m c (owner (prv c) 0) ∗ slotHas m c (owner (prv c) 1) ∗ slotHas m c (owner (prv c) 2))
    ∗ xPts m c)

/-- What passes it by: the second call's buffers, the generator register, the right operand and the result. -/
def aside (c : Dev nD) : sProp 𝕄 :=
  iprop(Pipeline.scopedRest (Ix := Unit) (Name := ℕ) (U := UU) (Lvl := ℕ) (Val := Elt F) cfg0.spec c ∗ (∃ r, prngReg c r)
    ∗ pt c main_arg1 (m ((c : Thread nD τ).loc main_arg1)) ∗ pt c main_v2 (m ((c : Thread nD τ).loc main_v2)))

/-- One point and no window: what is needed before it, what is left after it; owed until then, `O₀`. -/
def dat0 (c : Dev nD) : Dat τ (Elt F) Unit ℕ UU ℕ cfg0 c where
  A w := w.elim0
  after w := w.elim0
  Φ t := iprop((if t.val = 0 then before m c else after m c) ∗ aside m c)
  q w := w.elim0
  owed t := if t.val = 0 then O₀ c else 0

theorem dat0_Φ_first (c : Dev nD) : (dat0 m c).Φ 0 = iprop(before m c ∗ aside m c) := by
  show iprop((if (0 : Fin (cfg0.N + 1)).val = 0 then before m c else after m c) ∗ aside m c) = _
  rw [if_pos (show (0 : Fin (cfg0.N + 1)).val = 0 from rfl)]
theorem last_ne : (Fin.last cfg0.N).val ≠ 0 := by rw [Fin.val_last, show cfg0.N = 1 from N_0]; decide
theorem dat0_Φ_last (c : Dev nD) : (dat0 m c).Φ (Fin.last cfg0.N) = iprop(after m c ∗ aside m c) := by
  show iprop((if (Fin.last cfg0.N).val = 0 then before m c else after m c) ∗ aside m c) = _
  rw [if_neg last_ne]
theorem dat0_owed_first (c : Dev nD) : (dat0 m c).owed 0 = O₀ c := by
  show (if (0 : Fin (cfg0.N + 1)).val = 0 then O₀ c else 0) = _; exact if_pos rfl
theorem dat0_owed_last (c : Dev nD) : (dat0 m c).owed (Fin.last cfg0.N) = 0 := by
  show (if (Fin.last cfg0.N).val = 0 then O₀ c else 0) = _; exact if_neg last_ne

theorem owes_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (owing c O : sProp 𝕄) ⊢ (dat.owesAt () t : sProp 𝕄) := by
  unfold owing Dat.owesAt Pipeline.owesWithin Dat.bound; rw [h, hr]
  iintro ⟨%W, HO⟩; iexists W; isplitr; · ipureintro; exact fun _ _ => Or.inl trivial
  iexact HO
theorem owes_out {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ owing c O := by
  unfold owing Dat.owesAt Pipeline.owesWithin; rw [h]
  iintro ⟨%W, -, HO⟩; iexists W; iexact HO

theorem no_windows {M : Type} [URA M] (Φ : Fin 0 → sProp M) : bigSep Finset.univ Φ = (BI.emp : sProp M) :=
  bigSep_univ_eq_bigSepL [] (by decide) (by decide) Φ

theorem point_first : (t0_0 : Fin cfg0.N).castSucc = 0 := rfl
theorem point_last : (t0_0 : Fin cfg0.N).succ = Fin.last cfg0.N := Fin.ext (by rw [Fin.val_last]; exact N_0.symm)

theorem gather_row (t : Fin cfg0.N) : defs₀ (F := F) .tc cfg0.body (cfg0.bodyArgs t (cfg0.slots t)) = bodyAt0 t := by
  unfold defs₀; rw [Defs.onTc_tc]

/-- The gather's body takes the one state to the other. -/
theorem body0 (c : Dev nD) : BodyObligation (dat0 (F := F) m c) (defs₀ (F := F)) 𝒱₀ () Set.univ := fun t => by
  obtain rfl : t = t0_0 := fin_N0 t
  rw [no_windows, no_windows, gather_row, point_first, point_last, dat0_Φ_first, dat0_Φ_last]
  unfold before after
  iintro ⟨⟨⟨⟨%K, Hg⟩, Hc, Hlev, Hs, Hx⟩, Ha⟩, HO, -⟩
  ihave HO := (owes_out (dat0 m c) 0 (O₀ c) (dat0_owed_first m c)) $$ HO
  iapply (talkRun m K c t0_0 _)
  isplitl [Hg Hc Hlev Hs Hx HO]
  · unfold talkPre
    isplitl [Hg]; · iexact Hg
    isplitl [Hc]; · iexact Hc
    isplitl [Hlev]; · iexact Hlev
    isplitl [Hs]; · iexact Hs
    isplitl [Hx]; · iexact Hx
    iexact HO
  unfold talkPost
  iintro ⟨Hb, Hsem, Hs, Hx, HO⟩
  isplitr [HO]
  · isplitr [Ha]
    · isplitl [Hb]; · iexact Hb
      isplitl [Hsem]; · iexact Hsem
      isplitl [Hs]; · iexact Hs
      iexact Hx
    iexact Ha
  isplitl [HO]; · iapply (owes_in (dat0 m c) _ 0 (dat0_owed_last m c) rfl); iexact HO
  iempintro

/-! ## The gather as a segment -/

/-- The proof data of the two calls. -/
def pdats : (p : Fin 2) → (c : Dev nD) → Dat τ (Elt F) Unit ℕ UU ℕ (cfgs p) c
  | 0 => dat0 m
  | 1 => dat1 m

/-- What comes in from the launch, what it is opened to, and what goes out. -/
def ghostIn (c : Dev nD) : sProp 𝕄 := iprop((∃ K, ghost m K c) ∗ credit c)
def ghostAt (c : Dev nD) : sProp 𝕄 := iprop((∃ K, opened m K c) ∗ credit c ∗ levAts L lv)
def ghostOut (c : Dev nD) : sProp 𝕄 := semVal (barCell c) 0

/-- One dormant cell opened. -/
theorem open_cell (K : GSem nD τ sig → ℕ) (c : Dev nD) (k : Fin 7) :
    iprop(cellInv ER (rd m) (K (cell c k)) (cell c k) ∗ openTok ER (cell c k) ∗ semVal (cell c k) 0)
      ⊢ (|={Set.univ}=> iprop(atPos ER (cell c k) 0 ∅ 0 ∗ reached ER (cell c k) 0) : sProp 𝕄) :=
  Rounds.cell_open ER (rd m) (g := cell c k) (Set.mem_univ (K (cell c k)))

theorem ownSems_eq (c : Dev nD) :
    (Pipeline.ownSems0 own c : sProp 𝕄) = bigSep Finset.univ fun k : Fin 7 => semVal (cell c k) 0 := rfl

/-- All seven opened. -/
theorem open_all (K : GSem nD τ sig → ℕ) (c : Dev nD) :
    iprop((bigSep Finset.univ fun k : Fin 7 => cellInv ER (rd m) (K (cell c k)) (cell c k))
        ∗ (bigSep Finset.univ fun k : Fin 7 => openTok ER (cell c k)) ∗ bigSep Finset.univ fun k : Fin 7 => semVal (cell c k) 0)
      ⊢ (|={Set.univ}=> iprop((bigSep Finset.univ fun k : Fin 7 => atPos ER (cell c k) 0 ∅ 0)
          ∗ bigSep Finset.univ fun k : Fin 7 => reached ER (cell c k) 0) : sProp 𝕄) := by
  rw [← bigSep_sep', ← bigSep_sep', ← bigSep_sep']
  exact (bigSep_mono fun k _ => open_cell m K c k).trans (bigSep_fupd _ _)

theorem gather_open (c : Dev nD) : iprop(ghostIn m c ∗ Pipeline.ownSems0 own c ∗ levAts L lv) ⊢ (|={Set.univ}=> ghostAt m c : sProp 𝕄) := by
  rw [ownSems_eq]
  unfold ghostIn ghostAt
  iintro ⟨⟨⟨%K, Hg⟩, Hc⟩, Hsem, Hlev⟩
  unfold ghost
  icases Hg with ⟨#HI, Ab, Ho, Rp, Rn, Ht⟩
  imod (open_all m K c) $$ [Ho Hsem] with ⟨Ha, Hr⟩
  · isplitr
    · unfold invs; icases HI with ⟨-, HI7, -⟩; iexact HI7
    isplitl [Ho]; · iexact Ho
    iexact Hsem
  imodintro
  isplitr [Hc Hlev]
  · iexists K; unfold opened
    isplitr; · iexact HI
    isplitl [Ab]; · iexact Ab
    isplitl [Ha]; · iexact Ha
    isplitl [Hr]; · iexact Hr
    isplitl [Rp]; · iexact Rp
    isplitl [Rn]; · iexact Rn
    iexact Ht
  isplitl [Hc]; · iexact Hc
  iexact Hlev

theorem gather_in (c : Dev nD) :
    iprop(Pipeline.scopedRest (Pipeline.pin (pcfgs (F := F)) adm 0).spec c ∗ (∃ r, prngReg c r)
        ∗ StableHlo.held (c.tc : Thread nD τ) bufs (V₀ m c) ∗ ghostAt m c)
      ⊢ (pdats m 0 c).Φ 0 := by
  rw [show (pdats m 0 c).Φ 0 = iprop(before m c ∗ aside m c) from dat0_Φ_first m c, bufs_eq, gathered_slots]
  unfold before aside ghostAt
  rw [xPts_eq]
  iintro ⟨Hrest, Hp, ⟨Hx, Hw, ⟨H0, H1, H2, H3⟩, Hy⟩, HK, Hc, Hlev⟩
  isplitr [Hrest Hp Hw Hy]
  · isplitl [HK]; · iexact HK
    isplitl [Hc]; · iexact Hc
    isplitl [Hlev]; · iexact Hlev
    isplitr [Hx]
    · isplitl [H0]; · iexists _; iexact H0
      isplitl [H1]; · iexists _; iexact H1
      isplitl [H2]; · iexists _; iexact H2
      iexists _; iexact H3
    iexact Hx
  isplitl [Hrest]; · iexact Hrest
  isplitl [Hp]; · iexact Hp
  isplitl [Hw]; · iexact Hw
  iexact Hy

theorem gather_out (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) bufs (V₁ m c) ∗ Pipeline.ownSems0 own c ∗ ghostOut c) := by
  rw [show (pdats m 0 c).Φ (Fin.last (Pipeline.pin (pcfgs (F := F)) adm 0).N) = iprop(after m c ∗ aside m c) from dat0_Φ_last m c,
    bufs_eq, V₁_arg0, V₁_arg1, V₁_out, V₁_gathered, gathered_slots, ownSems_eq]
  unfold after aside ghostOut
  rw [xPts_eq]
  iintro ⟨⟨Hb, Hsem, Hs, Hx⟩, Hrest, Hp, Hw, Hy⟩
  isplitl [Hrest]; · iexact Hrest
  isplitl [Hp]; · iexact Hp
  isplitl [Hx Hw Hs Hy]
  · isplitl [Hx]; · iexact Hx
    isplitl [Hw]; · iexact Hw
    isplitl [Hs]; · iexact Hs
    iexact Hy
  isplitl [Hsem]; · iexact Hsem
  iexact Hb

/-- Whatever a device owes at the start stands on a barrier or a landing, above the level of the waits of the launch. -/
theorem O₀_pos {c : Dev nD} {g : GSem nD τ sig} {u : Unit} (h : 0 < O₀ c g u) : u ∈ L g ∧ 0 < lv g u := by
  unfold O₀ at h
  rw [Pi.add_apply, Finsupp.add_apply] at h
  have bar : ∀ d : Dev nD, 0 < (tallyAt (barCell d) () 1 : CellTallies nD τ sig Unit) g u → u ∈ L g ∧ 0 < lv g u := fun d h => by
    rw [tallyAt_apply] at h
    split at h
    · next hg =>
      rw [hg.1]
      exact ⟨by rw [L_tc]; exact Finset.mem_singleton_self _, by rw [lv_bar]; exact Nat.one_pos⟩
    · exact absurd h (Nat.lt_irrefl 0)
  rcases Nat.add_pos_iff_pos_or_pos.mp h with h | h
  · rw [Pi.add_apply, Finsupp.add_apply] at h
    rcases Nat.add_pos_iff_pos_or_pos.mp h with h | h
    · obtain ⟨k, hk, rfl⟩ := due_pos h (le_refl 3)
      exact ⟨by rw [L_tc]; exact Finset.mem_singleton_self _, by rw [lv_own, if_pos (by omega)]; omega⟩
    · exact bar _ h
  · exact bar _ h

theorem gather_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · exact O₀_pos h
  · exact absurd h (Nat.lt_irrefl 0)

set_option backward.isDefEq.respectTransparency.types false in
/-- The gather: from the buffers as launched and the protocol's ghost state to the gathered array. -/
def reg0 : Pipeline.RegionSeg (pcfgs (F := F)) adm (pdats m) () defs₀ 𝒱₀ L lv 0 :=
  Pipeline.RegionSeg.ofTalk (pcfgs (F := F)) adm (pdats m) () defs₀ 𝒱₀ L lv 0 own (by decide : Pipeline.OwnSemFacts cfg0.spec own)
    bufs bufs (Finset.Subset.refl _) launch0.toP rfl (fun c => (body0 m c).loose)
    (fun _ => 0) O₀ (fun c => (dat0_owed_first m c).trans (zero_add _).symm) (dat0_owed_last m) (fun _ => rfl) (fun _ w => w.elim0)
    (V₀ m) (V₁ m) (fun _ b hb => absurd hb (by rw [Finset.sdiff_self]; exact Finset.notMem_empty b))
    (ghostIn m) ghostOut (ghostAt m) ghostOut (gather_open m) (gather_in m) (gather_out m)
    (fun c => by iintro H; imodintro; iexact H)
    (fun _ => 0)
    ⟨fun _ w => w.elim0, fun _ w => w.elim0, fun c t g i h => gather_cut m c t g i h⟩
    (fun _ => iprop(emp))
    (fun _ w => w.elim0) (fun _ w => w.elim0)

theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    haveI : IsEmpty (Fin (pcfgs (F := F) 0).W) := inferInstanceAs (IsEmpty (Fin 0))
    unfold Pipeline.arrRefs
    rw [Finset.map_eq_empty, Finset.image_eq_empty, Finset.univ_eq_empty]
  rw [this]
  unfold StableHlo.held
  exact BI.bigSep_empty

/-- What device c holds beside its buffers as launched. -/
def carried (c : Dev nD) : sProp 𝕄 := iprop(ghostIn m c ∗ (∃ r, prngReg c r) ∗ owing c (O₀ c))

theorem reg0_pre (c : Dev nD) : iprop(StableHlo.held (c : Thread nD τ) bufs (V₀ m c) ∗ carried m c) ⊢ (reg0 m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) bufs (V₀ m c) ∗ emp) ∗ ghostIn m c ∗ ∃ Wd, owes (c : Thread nD τ) (0 + O₀ c) Wd)
  rw [held_none, zero_add]
  unfold carried owing
  iintro ⟨Hh, HK, Hp, HO⟩
  isplitr; · iempintro
  isplitl [Hp]; · iexact Hp
  isplitl [Hh]
  · isplitl [Hh]; · iexact Hh
    iempintro
  isplitl [HK]; · iexact HK
  iexact HO

theorem reg0_post (c : Dev nD) : (reg0 m).post c
    ⊢ iprop(StableHlo.held (c : Thread nD τ) bufs (V₁ m c) ∗ (owing c 0 ∗ (∃ r, prngReg c r) ∗ semVal (barCell c) 0)) := by
  show iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ ghostOut c ∗ ∃ Wd, owes (c : Thread nD τ) (0 : CellTallies nD τ sig Unit) Wd) ⊢ _
  rw [held_none]
  unfold ghostOut owing
  iintro ⟨-, Hp, ⟨Hh, -⟩, Hb, HO⟩
  isplitl [Hh]; · iexact Hh
  isplitl [HO]; · iexact HO
  isplitl [Hp]; · iexact Hp
  iexact Hb

/-! ## The product as a segment -/

/-- The staging semaphores stand at the lowest level. -/
theorem staging_level : ∀ (w : Fin 3) (s : Fin (spec1 w).nbuf) (c : Dev nD), lv ((c : Thread nD τ), .dma ((spec1 w).sem s)) () ≤ 0 := by
  decide

theorem gemm_cut : Pipeline.LevelCut (pcfgs (F := F)) adm () L lv 1 (fun _ => 0) (fun _ => 0) where
  hι c w s := by rw [L_tc]; exact Finset.mem_singleton_self _
  hιb c w s := staging_level w s c
  hD c g i h := absurd h (Nat.lt_irrefl 0)

theorem arrs_sub : Pipeline.arrRefs (τ := τ) (pcfgs (F := F) 1).spec ⊆ bufs := by
  show Pipeline.arrRefs (τ := τ) spec1 ⊆ bufs
  decide

set_option backward.isDefEq.respectTransparency.types false in
/-- The tiled product: from the gathered array to the result. -/
def reg1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) bufs
    (fun c => iprop(∃ r, prngReg c r)) (fun c => iprop(∃ r, prngReg c r)) launch1.toP rfl
    (fun c => (body1 m c).loose) (fun _ _ => rfl) (fun _ => rfl)
    (fun c => (dat1 m c).share_full fun _ => rfl)
    (fun c => .rfl) (fun c => .rfl) (fun _ => 0) gemm_cut (fun c => semVal (barCell c) 0) (V₁ m) (fun c w => dat1_A m c w)

/-- The device's buffers at the end. -/
def V₂ (c : Dev nD) : Valuation τ sig (Elt F) := Pipeline.afterRegion (dat1 m c) (V₁ m c)

theorem reg1_pre (c : Dev nD) :
    iprop(StableHlo.held (c : Thread nD τ) bufs (V₁ m c) ∗ (owing c 0 ∗ (∃ r, prngReg c r) ∗ semVal (barCell c) 0)) ⊢ (reg1 m).pre c := by
  unfold reg1 owing
  refine BI.Entails.trans ?_ (Pipeline.RegionSeg.ofHeldIn_pre arrs_sub c)
  exact BI.Entails.refl _

theorem reg1_post (c : Dev nD) : (reg1 m).post c
    ⊢ iprop(StableHlo.held (c : Thread nD τ) bufs (V₂ m c) ∗ (owing c 0 ∗ (∃ r, prngReg c r) ∗ semVal (barCell c) 0)) := by
  unfold reg1 owing
  exact Pipeline.RegionSeg.ofHeldIn_post arrs_sub c

theorem V₂_out (c : Dev nD) : V₂ m c main_v2 = (dat1 m c).arrAt 2 cfg1.N :=
  Pipeline.afterRegion_arr (dat1 m c) (V₁ m c) winFacts1.arr_inj 2

theorem V₂_arg0 (c : Dev nD) : V₂ m c main_arg0 = m ((c : Thread nD τ).loc main_arg0) :=
  (Pipeline.afterRegion_of_not_arr (dat1 m c) (V₁ m c) (by decide)).trans (V₁_arg0 m c)

theorem V₂_arg1 (c : Dev nD) : V₂ m c main_arg1 = m ((c : Thread nD τ).loc main_arg1) :=
  ((Pipeline.afterRegion_arr (dat1 m c) (V₁ m c) winFacts1.arr_inj 1).trans
    (((dat1 m c).arrAt_in 1 rfl cfg1.N).trans (dat1_A m c 1))).trans (V₁_arg1 m c)

end Cert.KernelIdeal.Gather
-- ==== Proof.KernelIdeal.Launch.lean ====
/-
  The run of the whole program on the four devices: the protocol's cells, tokens and credit dealt at the launch, the two
  calls one after the other, and what every final state holds.
-/
module

public import proofs.«01_k».proof.Proof.KernelIdeal.Region
public import Idealize.ShloMosaic.Lib.Quiescent

@[expose] public section

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens of the launch -/

def barEmb : Dev nD ↪ GSem nD τ sig := ⟨fun c => barCell c, fun _ _ h => congrArg (fun g : GSem nD τ sig => g.1.1) h⟩
def ownEmb : Dev nD × Fin 7 ↪ GSem nD τ sig :=
  ⟨fun ck => cell ck.1 ck.2, fun _ _ h =>
    Prod.ext (congrArg (fun g : GSem nD τ sig => g.1.1) h) (own_inj (congrArg Prod.snd h))⟩

/-- The barriers, whose counters are there from the start, and the seven semaphores of each device, dormant until the gather. -/
abbrev barCells : Finset (GSem nD τ sig) := Finset.univ.map barEmb
abbrev ownCells : Finset (GSem nD τ sig) := Finset.univ.map ownEmb

/-- The nine duties of a device's cells: two on the barrier, one on each of the seven. -/
abbrev dutySem : Fin 9 → SemLoc sig := ![barS, barS, own 0, own 1, own 2, own 3, own 4, own 5, own 6]
abbrev dutyOf : Fin 9 → Bool := ![true, false, false, false, false, false, false, false, false]
theorem duty_inj : Function.Injective fun j : Fin 9 => (dutySem j, dutyOf j) := by decide

def toks : Finset (GSem nD τ sig × ℕ × Bool) :=
  Finset.univ.map ⟨fun cj : Dev nD × Fin 9 => (((cj.1 : Thread nD τ), dutySem cj.2), 0, dutyOf cj.2), fun _ _ h =>
    Prod.ext (congrArg (fun t : GSem nD τ sig × ℕ × Bool => t.1.1.1) h)
      (duty_inj (Prod.ext (congrArg (fun t : GSem nD τ sig × ℕ × Bool => t.1.2) h)
        (congrArg (fun t : GSem nD τ sig × ℕ × Bool => t.2.2) h)))⟩

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact own_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 7) : cell c k ∈ (barCells ∪ ownCells : Finset (GSem nD τ sig)) :=
  Finset.mem_union_right _ (Finset.mem_map_of_mem ownEmb (Finset.mem_univ (c, k)))

/-- What is launched: the pipeline library's cells of the second call, and the protocol's. -/
def u₀ : UU :=
  (initOf (Pipeline.cells (Pipeline.pin (pcfgs (F := F)) adm) cellOf_inj) (Pipeline.launchToks (Pipeline.pin (pcfgs (F := F)) adm) cellOf_inj),
    launchOf barCells ownCells toks)

/-- The protocol's part, whole, in the hands of device 0 until it is dealt. -/
def G (c : Dev nD) : sProp 𝕄 := if c = 0 then BI.own (ER (launchOf barCells ownCells toks)) else iprop(emp)

theorem all_G : bigSep Finset.univ (G (F := F)) = (BI.own (ER (launchOf barCells ownCells toks)) : sProp 𝕄) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What is dealt -/

/-- What all devices share: every cell's invariant, and that every barrier is in its first round. -/
def records (κ : GSem nD τ sig → ℕ) : sProp 𝕄 :=
  iprop((bigSep (barCells ∪ ownCells) fun g => cellInv ER (rd m) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ ownCells : Finset (GSem nD τ sig))) :
    records m κ ⊢ cellInv ER (rd m) (κ g) g := by
  unfold records
  iintro ⟨H, -⟩
  iapply (show (bigSep (barCells ∪ ownCells) fun g => (cellInv ER (rd m) (κ g) g : sProp 𝕄)) ⊢ cellInv ER (rd m) (κ g) g
    from bigSep_elim hg)
  iexact H

theorem reached_at (κ : GSem nD τ sig → ℕ) (c : Dev nD) : records m κ ⊢ reached ER (barCell c) 0 := by
  unfold records; iintro ⟨-, H⟩
  iapply (show (bigSep barCells fun g => (reached ER g 0 : sProp 𝕄)) ⊢ reached ER (barCell c) 0
    from bigSep_elim (Finset.mem_map_of_mem barEmb (Finset.mem_univ c)))
  iexact H

theorem invs_of (κ : GSem nD τ sig → ℕ) (c : Dev nD) : records m κ ⊢ invs m κ c := by
  unfold invs
  rw [over_seven, over_three]
  iintro #H
  isplitr; · iapply (inv_at m κ (bar_mem c)); iexact H
  isplitr
  · isplitr; · iapply (inv_at m κ (own_mem c 0)); iexact H
    isplitr; · iapply (inv_at m κ (own_mem c 1)); iexact H
    isplitr; · iapply (inv_at m κ (own_mem c 2)); iexact H
    isplitr; · iapply (inv_at m κ (own_mem c 3)); iexact H
    isplitr; · iapply (inv_at m κ (own_mem c 4)); iexact H
    isplitr; · iapply (inv_at m κ (own_mem c 5)); iexact H
    iapply (inv_at m κ (own_mem c 6)); iexact H
  isplitr; · iapply (inv_at m κ (bar_mem (prv c))); iexact H
  isplitr; · iapply (inv_at m κ (bar_mem (nxt c))); iexact H
  isplitr; · iapply (inv_at m κ (own_mem (nxt c) (landK 0))); iexact H
  isplitr; · iapply (inv_at m κ (own_mem (nxt c) (landK 1))); iexact H
  iapply (inv_at m κ (own_mem (nxt c) (landK 2))); iexact H

/-- What is device c's alone: its place on its barrier, the right to open its seven cells, the tokens of the duties it pays. -/
def share (c : Dev nD) : sProp 𝕄 :=
  iprop(atPos ER (barCell c) 0 ∅ 0 ∗ (bigSep Finset.univ fun k : Fin 7 => openTok ER (cell c k)) ∗ tokens c)

theorem ghost_intro (κ : GSem nD τ sig → ℕ) (c : Dev nD) : iprop(records m κ ∗ share c) ⊢ iprop(∃ K, ghost m K c) := by
  unfold share ghost
  iintro ⟨#H, Ha, Ho, Ht⟩
  iexists κ
  isplitr; · iapply (invs_of m κ c); iexact H
  isplitl [Ha]; · iexact Ha
  isplitl [Ho]; · iexact Ho
  isplitr; · iapply (reached_at m κ (prv c)); iexact H
  isplitr; · iapply (reached_at m κ (nxt c)); iexact H
  iexact Ht

/-- The tokens of the duties on one device's cells. -/
def tokensOn (c : Dev nD) : sProp 𝕄 :=
  iprop(dutyTok ER (barCell c) 0 true ∗ dutyTok ER (barCell c) 0 false ∗ dutyTok ER (cell c 0) 0 false
    ∗ (dutyTok ER (cell c (sentK 0)) 0 false ∗ dutyTok ER (cell c (sentK 1)) 0 false ∗ dutyTok ER (cell c (sentK 2)) 0 false)
    ∗ (dutyTok ER (cell c (landK 0)) 0 false ∗ dutyTok ER (cell c (landK 1)) 0 false ∗ dutyTok ER (cell c (landK 2)) 0 false))

theorem over_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem regroup (A : Fin 9 → sProp 𝕄) :
    bigSep Finset.univ A ⊢ iprop(A 0 ∗ A 1 ∗ A 2 ∗ (A 3 ∗ A 4 ∗ A 5) ∗ (A 6 ∗ A 7 ∗ A 8)) := by
  rw [over_nine]
  iintro ⟨H0, H1, H2, H3, H4, H5, H6, H7, H8⟩
  isplitl [H0]; · iexact H0
  isplitl [H1]; · iexact H1
  isplitl [H2]; · iexact H2
  isplitl [H3 H4 H5]
  · isplitl [H3]; · iexact H3
    isplitl [H4]; · iexact H4
    iexact H5
  isplitl [H6]; · iexact H6
  isplitl [H7]; · iexact H7
  iexact H8

theorem toks_eq : bigSep toks (fun x => (dutyTok ER x.1 x.2.1 x.2.2 : sProp 𝕄)) ⊢ bigSep Finset.univ fun c : Dev nD => tokensOn c := by
  unfold toks; rw [bigSep_map, bigSep_univ_prod]
  exact bigSep_mono fun c _ => regroup fun j => dutyTok ER ((c : Thread nD τ), dutySem j) 0 (dutyOf j)

/-- Five families over the ring, the first turned one way, the second and the last the other way. -/
theorem turned {P Q R S T : Dev nD → sProp 𝕄} :
    (bigSep Finset.univ fun c : Dev nD => iprop(P c ∗ Q c ∗ R c ∗ S c ∗ T c))
      ⊢ bigSep Finset.univ fun c : Dev nD => iprop(P (prv c) ∗ Q (nxt c) ∗ R c ∗ S c ∗ T (nxt c)) := by
  simp only [bigSep_sep']
  rw [bigSep_univ_equiv turn.symm P, bigSep_univ_equiv turn Q, bigSep_univ_equiv turn T]
  exact BI.Entails.refl _

/-- Dealt to those who pay them: a barrier's to its two neighbours, a landing's to the left one. -/
theorem toks_dealt : (bigSep Finset.univ fun c : Dev nD => (tokensOn c : sProp 𝕄)) ⊢ bigSep Finset.univ fun c : Dev nD => tokens c :=
  turned (T := fun c => iprop(dutyTok ER (cell c (landK 0)) 0 false ∗ dutyTok ER (cell c (landK 1)) 0 false
    ∗ dutyTok ER (cell c (landK 2)) 0 false)) (P := fun c => dutyTok ER (barCell c) 0 true) (Q := fun c => dutyTok ER (barCell c) 0 false)

/-! ## The credit -/

theorem nxt_eq (d c : Dev nD) : nxt d = c ↔ d = prv c :=
  ⟨fun h => by rw [← h, prv_nxt], fun h => by rw [h, nxt_prv]⟩
theorem prv_eq (d c : Dev nD) : prv d = c ↔ d = nxt c :=
  ⟨fun h => by rw [← h, nxt_prv], fun h => by rw [h, prv_nxt]⟩

theorem bar_iff (d c : Dev nD) : barCell c = barCell d ↔ d = c :=
  ⟨fun h => (congrArg (fun g : GSem nD τ sig => g.1.1) h).symm, fun h => by rw [h]⟩
theorem cell_iff (d c : Dev nD) (k j : Fin 7) : cell c k = cell d j ↔ d = c ∧ j = k :=
  ⟨fun h => ⟨(congrArg (fun g : GSem nD τ sig => g.1.1) h).symm, (own_inj (congrArg Prod.snd h)).symm⟩, fun ⟨h, h'⟩ => by rw [h, h']⟩

theorem on_bar (d c : Dev nD) : (tallyAt (barCell d) () 1 : CellTallies nD τ sig Unit) (barCell c) () = if d = c then 1 else 0 := by
  rw [tallyAt_apply]; simp only [bar_iff, and_true]
theorem on_cell (d c : Dev nD) (k j : Fin 7) :
    (tallyAt (cell d j) () N : CellTallies nD τ sig Unit) (cell c k) () = if d = c ∧ j = k then N else 0 := by
  rw [tallyAt_apply]; simp only [cell_iff, and_true]
theorem bar_on_cell (d c : Dev nD) (k : Fin 7) : (tallyAt (barCell d) () 1 : CellTallies nD τ sig Unit) (cell c k) () = 0 := by
  rw [tallyAt_ne_cell fun h => own_ne_bar k (congrArg Prod.snd h)]; rfl
theorem cell_on_bar (d c : Dev nD) (j : Fin 7) : (tallyAt (cell d j) () N : CellTallies nD τ sig Unit) (barCell c) () = 0 := by
  rw [tallyAt_ne_cell fun h => own_ne_bar j (congrArg Prod.snd h).symm]; rfl

/-- What device d owes on device c's barrier, and on its landings. -/
theorem owed_bar (d c : Dev nD) : O₀ d (barCell c) () = (if d = prv c then 1 else 0) + (if d = nxt c then 1 else 0) := by
  simp only [O₀, due, Pi.add_apply, Finsupp.add_apply, Pi.zero_apply, Finsupp.zero_apply, zero_add]
  rw [cell_on_bar (nxt d) c (landK (Fin.ofNat 3 (2 - 0))), cell_on_bar (nxt d) c (landK (Fin.ofNat 3 (2 - 1))),
    cell_on_bar (nxt d) c (landK (Fin.ofNat 3 (2 - 2))), on_bar, on_bar]
  simp only [nxt_eq, prv_eq, zero_add]
theorem owed_land (d c : Dev nD) (h : Fin 3) : O₀ d (cell c (landK h)) () = if d = prv c then N else 0 := by
  simp only [O₀, due, Pi.add_apply, Finsupp.add_apply, Pi.zero_apply, Finsupp.zero_apply, zero_add]
  rw [on_cell (nxt d) c (landK h) (landK (Fin.ofNat 3 (2 - 0))), on_cell (nxt d) c (landK h) (landK (Fin.ofNat 3 (2 - 1))),
    on_cell (nxt d) c (landK h) (landK (Fin.ofNat 3 (2 - 2))), bar_on_cell (nxt d) c (landK h), bar_on_cell (prv d) c (landK h)]
  simp only [nxt_eq, add_zero]
  by_cases e : d = prv c
  · rw [if_pos e]
    fin_cases h <;> simp [e]
  · rw [if_neg fun h => e h.1, if_neg fun h => e h.1, if_neg fun h => e h.1, if_neg e]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]
theorem credit_land (c : Dev nD) (h : Fin 3) :
    tallyOn (cell c (landK h)) (launchCredit (Pipeline.owing O₀) 0 (cell c (landK h)))
      = (tallyAt (cell c (landK h)) () N : CellTallies nD τ sig Unit) := by
  unfold tallyAt; refine congrArg _ (Finsupp.ext fun u => ?_); cases u
  rw [Pipeline.launchCredit_owing, Finsupp.single_eq_same, Finset.sum_congr rfl fun d _ => owed_land d c h,
    Finset.sum_ite_eq' Finset.univ (prv c) fun _ => N, if_pos (Finset.mem_univ _)]

theorem credits (c : Dev nD) : (Pipeline.launchCred O₀ c : sProp 𝕄) ⊢ credit c := by
  unfold Pipeline.launchCred credit
  refine (bigSep_subset (t := [barS, own (landK 0), own (landK 1), own (landK 2)].toFinset) (Finset.subset_univ _)).trans ?_
  rw [bigSep_eq_bigSepL_of_eq [barS, own (landK 0), own (landK 1), own (landK 2)] rfl (by decide)]
  rw [← credit_bar, ← credit_land c 0, ← credit_land c 1, ← credit_land c 2]
  exact BI.Entails.refl _

/-! ## The run -/

theorem unscopedSems_eq (c : Dev nD) : (unscopedSems0 c : sProp 𝕄) = semVal (barCell c) 0 := by
  unfold unscopedSems0
  rw [show (Finset.univ.filter fun sm : SemLoc sig => ¬ sm.isScoped .tc) = {barS} from by decide, BI.bigSep_singleton]

/-- What device c starts and ends with. -/
abbrev start (c : Dev nD) : sProp 𝕄 := iprop(StableHlo.held (c : Thread nD τ) bufs (V₀ m c) ∗ carried m c)
abbrev finish (c : Dev nD) : sProp 𝕄 := iprop(StableHlo.held (c : Thread nD τ) bufs (V₂ m c) ∗ semVal (barCell c) 0)

/-- What device c has at the launch beside the protocol's ghost state. -/
def plain (c : Dev nD) : sProp 𝕄 :=
  iprop(StableHlo.held (c : Thread nD τ) bufs (V₀ m c) ∗ credit c ∗ (∃ r, prngReg c r) ∗ owing c (O₀ c))

theorem start_intro (κ : GSem nD τ sig → ℕ) (c : Dev nD) : iprop(records m κ ∗ (share c ∗ plain m c)) ⊢ start m c := by
  unfold plain start carried ghostIn
  iintro ⟨#HR, Hs, Hh, Hc, Hp, HO⟩
  isplitl [Hh]; · iexact Hh
  isplitl [Hs Hc]
  · isplitl [Hs]
    · iapply (ghost_intro m κ c)
      isplitr; · iexact HR
      iexact Hs
    iexact Hc
  isplitl [Hp]; · iexact Hp
  iexact HO

theorem pair {Φ Ψ : Dev nD → sProp 𝕄} :
    iprop(bigSep Finset.univ Φ ∗ bigSep Finset.univ Ψ) ⊢ bigSep Finset.univ (fun c => iprop(Φ c ∗ Ψ c)) :=
  Entails.of_eq (bigSep_sep _ _ _).symm
theorem unpair {Φ Ψ : Dev nD → sProp 𝕄} :
    bigSep Finset.univ (fun c => iprop(Φ c ∗ Ψ c)) ⊢ iprop(bigSep Finset.univ Φ ∗ bigSep Finset.univ Ψ) :=
  Entails.of_eq (bigSep_sep _ _ _)

/-- What the launch gives device c. -/
abbrev dealt (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem dealt_plain (c : Dev nD) : dealt m ρ c ⊢ (iprop(plain m c ∗ (semVal (barCell c) 0 ∗ G c)) : sProp 𝕄) := by
  rw [dealt, show unscopedBufs c (fun b => m ((c : Thread nD τ).loc b)) = StableHlo.held (c : Thread nD τ) bufs (V₀ m c)
    from Pipeline.unscopedBufs_held c (V₀ m c), unscopedSems_eq]
  unfold plain owing
  iintro ⟨Hh, Hb, HO, Hc, Hp, HG⟩
  isplitr [Hb HG]
  · isplitl [Hh]; · iexact Hh
    isplitl [Hc]; · iapply (credits c); iexact Hc
    isplitl [Hp]; · iexists (ρ c); iexact Hp
    iexists ∅; iexact HO
  isplitl [Hb]; · iexact Hb
  iexact HG

/-- The launch: the cells' invariants are allocated and everything is dealt. -/
theorem init : iprop((bigSep Finset.univ fun c : Dev nD => dealt m ρ c) ∗ levAts L lv) ⊢ (|={Set.univ}=> bigSep Finset.univ (start m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 7 => (openTok ER (cell c k) : sProp 𝕄)) :=
    Entails.of_eq (by rw [bigSep_map, bigSep_univ_prod]; rfl)
  iintro ⟨H, -⟩
  ihave H := (show (bigSep Finset.univ fun c : Dev nD => dealt m ρ c)
      ⊢ (bigSep Finset.univ fun c : Dev nD => iprop(plain m c ∗ (semVal (barCell c) 0 ∗ G c)) : sProp 𝕄)
    from bigSep_mono fun c _ => dealt_plain m ρ c) $$ H
  ihave H := unpair $$ H
  icases H with ⟨Hp, H⟩
  ihave H := unpair $$ H
  icases H with ⟨Hv, HG⟩
  ihave Hu := (Entails.of_eq (all_G (F := F))) $$ HG
  imod (Rounds.fund_launch ER (rd m) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ plain m c)) fun c _ => start_intro m κ c)
  isplitr
  · unfold records
    isplitr; · iexact Hinv
    iexact Hr
  iapply pair
  isplitr [Hp]
  · unfold share
    iapply pair; isplitl [Hat]; · iapply hat $$ Hat
    iapply pair; isplitl [Hopen]; · iapply hopen $$ Hopen
    iapply (toks_dealt (F := F))
    iapply (toks_eq (F := F)) $$ Htok
  · iexact Hp

theorem unscoped_bar : ∀ sm : SemLoc sig, sm.isScoped .tc = false → sm = barS := by decide

set_option backward.isDefEq.respectTransparency.types false in
/-- From any memory with zero counters, every weakly fair execution of the program on the four devices terminates, and in
    every final state each device's operands are as they were, its result is what the tiled product writes from the gathered
    array and its block of the right operand, and every counter is zero. -/
theorem run : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = (dat1 m c).arrAt 2 cfg1.N) ∧ r.2.sem = fun _ => 0) :=
  Pipeline.θ_run_regions_kit_sems (pcfgs (F := F)) adm (pdats m) () cellOf_inj EP defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := start m) (Tₙ := finish m)
    (hch := by
      refine ⟨fun c => reg0_pre m c, fun c => (reg0_post m c).trans (reg1_pre m c), fun c => (reg1_post m c).trans ?_⟩
      show iprop(StableHlo.held (c : Thread nD τ) bufs (V₂ m c) ∗ (owing c 0 ∗ (∃ r, prngReg c r) ∗ semVal (barCell c) 0))
        ⊢ iprop(finish m c ∗ ∃ W, owes (c : Thread nD τ) (0 : CellTallies nD τ sig Unit) W)
      unfold owing
      iintro ⟨Hh, HO, -, Hb⟩
      isplitr [HO]
      · isplitl [Hh]; · iexact Hh
        iexact Hb
      iexact HO)
    (hinit := init m ρ)
    (QY := fun c s => (s.mem ((c : Thread nD τ).loc main_arg0) = V₂ m c main_arg0
      ∧ s.mem ((c : Thread nD τ).loc main_arg1) = V₂ m c main_arg1 ∧ s.mem ((c : Thread nD τ).loc main_v2) = V₂ m c main_v2)
      ∧ s.sem (barCell c) = 0)
    (hfin := fun c s' => by
      dsimp only [finish]; rw [bufs_eq]
      iintro ⟨⟨⟨Hx, Hw, -, Hy⟩, Hb⟩, HSI⟩
      icombine HSI Hx gives %hx
      icombine HSI Hw gives %hw
      icombine HSI Hy gives %hy
      icombine HSI Hb gives %hb
      imodintro
      isplitr
      · ipureintro
        exact ⟨⟨Buf.eq_of_forall_mem_univ hx, Buf.eq_of_forall_mem_univ hw, Buf.eq_of_forall_mem_univ hy⟩, by simpa using hb⟩
      iexact HSI)
    (hQ := fun s h hs => ⟨fun c => by
        obtain ⟨⟨hx, hw, hy⟩, -⟩ := h c
        exact ⟨hx.trans (V₂_arg0 m c), hw.trans (V₂_arg1 m c), hy.trans (V₂_out m c)⟩,
      sem_eq_zero hs fun c sm hsm => by
        obtain rfl := unscoped_bar sm hsm
        exact (h c).2⟩)

end Cert.KernelIdeal.Gather
-- ==== Proof.Value.Epilogue.lean ====
/-
  What both programs compute, over the extended reals: entry (r, j) of the result is the gate of entry (r, j) of the product
  of the two whole matrices. The gate's two spellings, the kernel's and the reference's, are one function.
-/
module

public import Idealize.ShloMosaic.Lib.IdealHost
public import Idealize.ShloMosaic.Lib.ValueIdxCore

@[expose] public section

noncomputable section

namespace Cert.Value

open Idealize.ShloMosaic Idealize.ShloMosaic.ValueIdx

/-- y / (1 + e^(-y)). -/
def gate (y : EReal) : EReal := Ideal.div y (1 + Ideal.exp (-y))

/-- An exponential is not negative, so the denominator is not zero. -/
theorem denominator_ne (y : EReal) : 1 + Ideal.exp y ≠ 0 := by
  have h := Ideal.one_add_sum_ne_zero (Finset.univ : Finset (Fin 1)) (fun _ => Ideal.exp y) fun _ _ => by
    induction y using EReal.rec with
    | bot => exact le_refl _
    | top => exact le_top
    | coe r => exact (EReal.coe_nonneg.mpr (Real.exp_pos r).le : (0 : EReal) ≤ ((Real.exp r : ℝ) : EReal))
  rwa [Fin.sum_univ_one] at h

/-- The kernel multiplies by the logistic function. -/
theorem gate_of_logistic (y : EReal) : y * Ideal.logistic y = gate y := Ideal.mul_one_div (denominator_ne (-y))

/-- The reference clips first, and at the infinities clipping changes nothing. -/
theorem gate_of_clipped (y : EReal) : Ideal.div y (1 + Ideal.exp (0 - min ⊤ (max ⊥ y))) = gate y := by
  rw [bot_sup_eq, top_inf_eq, zero_sub]; rfl

/-- The result: the gate of the product, entry by entry. -/
def result (A : (⟨2, ![8192, 8192]⟩ : Shape).Idx → EReal) (B : (⟨2, ![8192, 4096]⟩ : Shape).Idx → EReal)
    (r : Fin 8192) (j : Fin 4096) : EReal :=
  gate (∑ k : Fin 8192, A (ix2 r k) * B (ix2 k j))

end Cert.Value
-- ==== Proof.Value.Kernel.lean ====
/-
  The kernel's result arrays, entry by entry: device c's is its block of columns of the reference's, when the devices'
  operands are the blocks of the reference's arguments.
-/
module

public import proofs.«01_k».proof.Proof.KernelIdeal.Gemm
public import proofs.«01_k».proof.Proof.Value.Epilogue
public import Idealize.ShloMosaic.Lib.Layout
public import Idealize.ShloMosaic.Lib.MatmulPlain
public import Idealize.ShloMosaic.Lib.Pipeline.ValueKit.Geometry

@[expose] public section

set_option maxRecDepth 16384

noncomputable section

namespace Cert.Value

open Idealize.ShloMosaic Idealize.ShloMosaic.TcCoe Idealize.ShloMosaic.ValueIdx
open Cert.KernelIdeal Cert.KernelIdeal.Gen Cert.KernelIdeal.Gather

/-! ## One tile -/

theorem zeros2 : (![0, 0] : Fin 2 → ℕ) = fun _ => 0 := by funext a; fin_cases a <;> rfl
theorem zeros3 : (![0, 0, 0] : Fin 3 → ℕ) = fun _ => 0 := by funext a; fin_cases a <;> rfl

/-- The tile's stored block is its payload on the two whole operands. -/
theorem tile_eq (x : Vec Ideal S1x256x8192 .bf16) (w : Vec Ideal S8192x1024 .bf16) : tile (F := Ideal) x w = k1_pay1 x w := by
  unfold tile
  rw [show View.ld x wholeX = x from View.ld_unit_zero zeros3 _ x, show View.ld w wholeW = w from View.ld_unit_zero zeros2 _ w]
  exact View.canon_unit_zero zeros2 _ _

/-- The product in a tile, entry by entry. -/
theorem product_tile (x : Vec Ideal S1x256x8192 .bf16) (w : Vec Ideal S8192x1024 .bf16) (r : Fin 256) (j : Fin 1024) :
    FloatOps.matmul (F := Ideal) (φ₁ := .bf16) (φ₂ := .bf16) (DotDims.plain 256 8192 1024) none
        (shapeCast S256x8192 x shapeCasts_S1x256x8192_S256x8192) w (constant S256x1024 .f32 0x00000000#32) (ix2 r j)
      = ∑ k : Fin 8192, (x (ix3 (0 : Fin 1) r k) : EReal) * (w (ix2 k j) : EReal) := by
  rw [Ideal.matmul_plain_apply]
  refine (congrArg (· + _) (Ideal.ofBits_zero_f32)).trans ((zero_add _).trans (Finset.sum_congr rfl fun k _ => ?_))
  exact congrArg (· * _) (shapeCast_1ab_ab_apply (a := 256) (b := 8192) x shapeCasts_S1x256x8192_S256x8192 r k)

theorem tile_at (x : Vec Ideal S1x256x8192 .bf16) (w : Vec Ideal S8192x1024 .bf16) (r : Fin 256) (j : Fin 1024) :
    tile (F := Ideal) x w (ix2 (n0 := 256) (n1 := 1024) r j)
      = gate (∑ k : Fin 8192, (x (ix3 (0 : Fin 1) r k) : EReal) * (w (ix2 k j) : EReal)) := by
  rw [tile_eq, ← gate_of_logistic, ← product_tile]
  unfold k1_pay1
  rw [shapeCast_self]
  rfl

/-! ## The blocks a tile reads -/

variable (m : (ℓ : Loc nD τ sig) → Buf (Elt Ideal) ℓ)
variable (A : (⟨2, ![8192, 8192]⟩ : Shape).Idx → EReal) (B : (⟨2, ![8192, 4096]⟩ : Shape).Idx → EReal)

/-- Each device holds its block of rows of A and its block of columns of B. -/
def Holds : Prop := ∀ c : Dev nD,
  m ((c : Thread nD τ).loc main_arg0) = Layout.block ⟨2, ![2048, 8192]⟩ ⟨2, ![8192, 8192]⟩ 0 4 c A
  ∧ m ((c : Thread nD τ).loc main_arg1) = Layout.block ⟨2, ![8192, 1024]⟩ ⟨2, ![8192, 4096]⟩ 1 4 c B

variable {m A B}

/-- The gathered array is A, block of rows after block of rows. -/
theorem gath_at (h : Holds m A B) (i : S4x2048x8192.Idx) (R k : Fin 8192) (hR : R.val = (i 0).val * 2048 + (i 1).val)
    (hk : k.val = (i 2).val) : (gath m i : EReal) = A (ix2 R k) := by
  refine (congrFun (h (whose i)).1 (within i)).trans (congrArg A (funext fun a => Fin.ext ?_))
  match a with
  | ⟨0, _⟩ => exact hR.symm
  | ⟨1, _⟩ => exact hk.symm

/-- Where the blocks of a grid point start: the row of the result is the row of the gathered array, the other offsets are zero. -/
theorem starts : ∀ t : Fin cfg1.N, win1_2.index t 0 * 256 = win1_0.index t 0 * 2048 + win1_0.index t 1 * 256
    ∧ win1_0.index t 2 = 0 ∧ win1_2.index t 1 = 0 ∧ ∀ a : Fin 2, win1_1.index t a = 0 :=
  (by decide +kernel : ∀ t : Fin grid1.N, win1_2.index t 0 * 256 = win1_0.index t 0 * 2048 + win1_0.index t 1 * 256
    ∧ win1_0.index t 2 = 0 ∧ win1_2.index t 1 = 0 ∧ ∀ a : Fin 2, win1_1.index t a = 0)

theorem left_at (h : Holds m A B) (c : Dev nD) (t : Fin cfg1.N) (r : Fin 256) (k R : Fin 8192)
    (hR : R.val = win1_2.index t 0 * 256 + r.val) :
    (blockOf m c 0 t (ix3 (0 : Fin 1) r k : S1x256x8192.Idx) : EReal) = A (ix2 R k) := by
  obtain ⟨s0, s2, -, -⟩ := starts t
  have e0 := win1_0.rect_emb_val t (ix3 (0 : Fin 1) r k : S1x256x8192.Idx) (0 : Fin 3)
  have e1 := win1_0.rect_emb_val t (ix3 (0 : Fin 1) r k : S1x256x8192.Idx) (1 : Fin 3)
  have e2 := win1_0.rect_emb_val_of_index_zero t (2 : Fin 3) s2 (ix3 (0 : Fin 1) r k : S1x256x8192.Idx)
  refine (congrFun (V₁_gathered m c) _).trans (gath_at h _ R k ?_ e2.symm)
  refine Eq.trans ?_ (congrArg₂ (fun p q => p * 2048 + q) e0 e1).symm
  show R.val = (win1_0.index t 0 * 1 + 0) * 2048 + (win1_0.index t 1 * 256 + r.val)
  omega

theorem right_at (h : Holds m A B) (c : Dev nD) (t : Fin cfg1.N) (k : Fin 8192) (j : Fin 1024) (J : Fin 4096)
    (hJ : J.val = c.val * 1024 + j.val) :
    (blockOf m c 1 t (ix2 k j : S8192x1024.Idx) : EReal) = B (ix2 k J) := by
  obtain ⟨-, -, -, s⟩ := starts t
  have e0 := win1_1.rect_emb_val_of_index_zero t (0 : Fin 2) (s 0) (ix2 k j : S8192x1024.Idx)
  have e1 := win1_1.rect_emb_val_of_index_zero t (1 : Fin 2) (s 1) (ix2 k j : S8192x1024.Idx)
  refine (congrFun (V₁_arg1 m c) _).trans ((congrFun (h c).2 _).trans (congrArg B (funext fun a => Fin.ext ?_)))
  match a with
  | ⟨0, _⟩ => exact e0
  | ⟨1, _⟩ => exact (congrArg (c.val * 1024 + ·) e1).trans hJ.symm

/-! ## The array a device writes -/

/-- Device c's block of columns of the result. -/
abbrev columns (A : (⟨2, ![8192, 8192]⟩ : Shape).Idx → EReal) (B : (⟨2, ![8192, 4096]⟩ : Shape).Idx → EReal) (c : Dev nD) :
    S8192x1024.Idx → EReal :=
  Layout.block ⟨2, ![8192, 1024]⟩ ⟨2, ![8192, 4096]⟩ 1 4 c fun i => result A B (i 0) (i 1)

theorem written_covered : win1_2.Covers := by decide +kernel

theorem tile_columns (h : Holds m A B) (c : Dev nD) (t : Fin cfg1.N) (y : S256x1024.Idx) :
    (tile (blockOf m c 0 t) (blockOf m c 1 t) y : EReal) = columns A B c (((cfg1.win 2).blk t).view.emb y) := by
  obtain ⟨-, -, s1, -⟩ := starts t
  have e0 := win1_2.rect_emb_val t y (0 : Fin 2)
  have e1 := win1_2.rect_emb_val_of_index_zero t (1 : Fin 2) s1 y
  refine (congrArg _ (eq_ix2 (n0 := 256) (n1 := 1024) y)).trans ((tile_at _ _ (y 0) (y 1)).trans ?_)
  refine congrArg gate (Finset.sum_congr rfl fun k _ => congrArg₂ (· * ·) (left_at h c t (y 0) k _ e0) (right_at h c t k (y 1) _ ?_))
  exact congrArg (c.val * 1024 + ·) e1

/-- What device c writes. -/
theorem kernel_eq (h : Holds m A B) (c : Dev nD) :
    ((dat1 m c).arrAt 2 cfg1.N : S8192x1024.Idx → EReal) = columns A B c := by
  refine (dat1 m c).arrAt_eq_of_cover 2 (columns A B c) (fun t _ => ?_) fun i =>
    Pipeline.Window.Covers.cover win1_2 written_covered (Memref.isWhole_whole _) i
  rw [flushed_tile]
  exact funext fun y => tile_columns h c t y

end Cert.Value
-- ==== Proof.Value.Reference.lean ====
/-
  The reference's result array, entry by entry: the product of its two arguments, then the gate.
-/
module

public import proofs.«01_k».proof.Proof.Gen.ReferenceIdeal.Value
public import proofs.«01_k».proof.Proof.Value.Epilogue
public import Idealize.ShloMosaic.Lib.StackMember
public import Idealize.ShloMosaic.Lib.Pipeline.ValueKit.Geometry

@[expose] public section

set_option maxRecDepth 16384

noncomputable section

namespace Cert.Value

open Idealize.ShloMosaic Idealize.ShloMosaic.TcCoe Idealize.ShloMosaic.ValueIdx
open Cert.ReferenceIdeal Cert.ReferenceIdeal.Gen

variable (m : (ℓ : Loc nD τ sig) → Buf (Elt Ideal) ℓ)

/-- The two whole arguments. -/
abbrev lhs (c : Dev nD) : (⟨2, ![8192, 8192]⟩ : Shape).Idx → EReal := m ((c : Thread nD τ).loc main_arg0)
abbrev rhs (c : Dev nD) : (⟨2, ![8192, 4096]⟩ : Shape).Idx → EReal := m ((c : Thread nD τ).loc main_arg1)

/-- The array the epilogue reads: the product, its two changes of format the identity over the extended reals. -/
theorem product_eq (c : Dev nD) :
    (V m c main_v2 : S8192x4096.Idx → EReal)
      = Host.dotGeneral (F := Ideal) (φ₁ := .bf16) (φ₂ := .bf16) (DotDims.plain 8192 8192 4096) none (lhs m c) (rhs m c) := by
  show StableHlo.after hostOps0 (fun b => m (c, b)) (Proc.devRef .tc main_v2) = _
  simp only [hostOps0, StableHlo.after_cons, StableHlo.after_nil]
  rw [StableHlo.unary_result, StableHlo.unary_result, StableHlo.binary_result]
  rfl

theorem product_at (c : Dev nD) (r : Fin 8192) (j : Fin 4096) :
    (V m c main_v2 : S8192x4096.Idx → EReal) (ix2 r j) = ∑ k : Fin 8192, lhs m c (ix2 r k) * rhs m c (ix2 k j) :=
  (congrFun (product_eq m c) (ix2 r j)).trans
    (StackMember.dotGeneral_plain_apply (m := 8192) (k := 8192) (n := 4096) (φ₁ := .bf16) (φ₂ := .bf16) none (lhs m c) (rhs m c) r j)

/-- The reference's result array. -/
abbrev whole (c : Dev nD) : S8192x4096.Idx → EReal := fun i => result (lhs m c) (rhs m c) (i 0) (i 1)

/-- The epilogue's one block is the whole array, at the same indices. -/
theorem block_emb (t : Fin cfg0.N) (y : S8192x4096.Idx) : ((cfg0.win 1).blk t).view.emb y = y := by
  funext a
  exact Fin.ext ((cfg0.win 1).rect_emb_val_of_index_zero t a
    ((by decide +kernel : ∀ (t : Fin grid0.N) (a : Fin 2), win0_1.index t a = 0) t a) y)
theorem operand_emb (t : Fin cfg0.N) (y : S8192x4096.Idx) : ((cfg0.win 0).blk t).view.emb y = y := by
  funext a
  exact Fin.ext ((cfg0.win 0).rect_emb_val_of_index_zero t a
    ((by decide +kernel : ∀ (t : Fin grid0.N) (a : Fin 2), win0_0.index t a = 0) t a) y)

theorem operand_eq (c : Dev nD) (t : Fin cfg0.N) :
    (iblk m c 0 t : S8192x4096.Idx → EReal) = (V m c main_v2 : S8192x4096.Idx → EReal) :=
  funext fun y => congrArg (V m c main_v2 : S8192x4096.Idx → EReal) (operand_emb t y)

theorem epilogue_at (P : Vec Ideal S8192x4096 .f32) (y : S8192x4096.Idx) :
    out0_1 (F := Ideal) P y = gate (P y) := by
  have z : (![0, 0] : Fin 2 → ℕ) = fun _ => 0 := by funext a; fin_cases a <;> rfl
  unfold out0_1
  rw [show View.ld P r0_0 = P from View.ld_unit_zero z _ P]
  refine (Value.canon1_eq P y).trans ?_
  have e : Value.ix1_0 y = y := by funext a; fin_cases a <;> rfl
  show Ideal.div (P (Value.ix1_0 y)) (Ideal.ofBits .f32 0x3F800000#32
    + Ideal.exp (Ideal.ofBits .f32 0x00000000#32 - min ⊤ (max ⊥ (P (Value.ix1_0 y))))) = _
  rw [e, Ideal.ofBits_one_f32, Ideal.ofBits_zero_f32, gate_of_clipped]

theorem whole_covered : win0_1.Covers := by decide +kernel

/-- What the reference writes. -/
theorem reference_eq (c : Dev nD) : ((dats m 0 c).arrAt 1 cfg0.N : S8192x4096.Idx → EReal) = whole m c := by
  refine (dats m 0 c).arrAt_eq_of_cover 1 (whole m c) (fun t _ => ?_) fun i => Pipeline.Window.Covers.cover win0_1 whole_covered (Memref.isWhole_whole _) i
  funext y
  rw [Value.flushed1]
  show out0_1 (F := Ideal) (iblk m c 0 t) y = whole m c (((cfg0.win 1).blk t).view.emb y)
  rw [epilogue_at, operand_eq, block_emb]
  exact congrArg gate ((congrArg (V m c main_v2 : S8192x4096.Idx → EReal) (eq_ix2 (n0 := 8192) (n1 := 4096) y)).trans
    (product_at m c (y 0) (y 1)))

end Cert.Value
-- ==== Proof.lean ====
/-
  The proof of the five claims. The kernel's run (Proof/Kernel/, Proof/KernelIdeal/: the same text over the two printed
  programs) gives the two frames and names the array each device writes; Proof/Value/ sets that array beside the
  reference's.
-/
module

public import proofs.«01_k».proof.Defs
public import proofs.«01_k».proof.Proof.Kernel.Launch
public import proofs.«01_k».proof.Proof.KernelIdeal.Launch
public import proofs.«01_k».proof.Proof.Value.Kernel
public import proofs.«01_k».proof.Proof.Value.Reference

@[expose] public section

noncomputable section

namespace Cert.Proof

open Idealize.ShloMosaic Idealize.SL.Sem

theorem frame_kernel : Cert.quiescent_Kernel (hKernel := Cert.Kernel.Gen.facts) := fun m ρ _ =>
  (θ_run Cert.Kernel.defs _ _).mono (fun _ h => ⟨fun c => ⟨(h.1 c).1, (h.1 c).2.1⟩, h.2⟩) (Cert.Kernel.Gather.run m ρ)

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Gather.run m ρ)

theorem frame_reference : Cert.quiescent_ReferenceIdeal (hReferenceIdeal := Cert.ReferenceIdeal.Gen.facts) := fun m ρ _ =>
  Cert.ReferenceIdeal.Gen.frame m ρ

/-- The one array the claim asks for is the reference's result. -/
theorem equation : Cert.algebraic_KernelIdeal_ReferenceIdeal (hKernelIdeal := Cert.KernelIdeal.Gen.facts)
    (hReferenceIdeal := Cert.ReferenceIdeal.Gen.facts) := fun m ρ m' ρ' _ hargs =>
  ⟨Cert.Value.whole m' 0,
    (θ_run Cert.KernelIdeal.defs _ _).mono
      (fun _ h c => ⟨(h.1 c).2.2.trans (Cert.Value.kernel_eq (A := Cert.Value.lhs m' 0) (B := Cert.Value.rhs m' 0) hargs c),
        (h.1 c).1, (h.1 c).2.1⟩)
      (Cert.KernelIdeal.Gather.run m ρ),
    (θ_run Cert.ReferenceIdeal.defs _ _).mono
      (fun _ h => ⟨(h 0).1.trans (Cert.Value.reference_eq m' 0), (h 0).2⟩)
      (Cert.ReferenceIdeal.Value.run_blocks m' ρ')⟩

theorem claim : Cert.Claim :=
  ⟨Cert.Kernel.Gen.facts, Cert.KernelIdeal.Gen.facts, Cert.ReferenceIdeal.Gen.facts,
    frame_kernel, frame_ideal, frame_reference, trivial, equation⟩

end Cert.Proof
